-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x8192 : Shape := ⟨2, ![128, 8192]⟩
abbrev S128x8192x20 : Shape := ⟨3, ![128, 8192, 20]⟩
abbrev S128 : Shape := ⟨1, ![128]⟩
abbrev S20x128x8192 : Shape := ⟨3, ![20, 128, 8192]⟩
abbrev S128x1 : Shape := ⟨2, ![128, 1]⟩
abbrev S128x128 : Shape := ⟨2, ![128, 128]⟩
abbrev S8x128 : Shape := ⟨2, ![8, 128]⟩
abbrev S20x8x2048 : Shape := ⟨3, ![20, 8, 2048]⟩
abbrev S8x2048 : Shape := ⟨2, ![8, 2048]⟩
abbrev S8x1 : Shape := ⟨2, ![8, 1]⟩
abbrev S1x8x1 : Shape := ⟨3, ![1, 8, 1]⟩
abbrev S20x8x128 : Shape := ⟨3, ![20, 8, 128]⟩
abbrev S1x8x128 : Shape := ⟨3, ![1, 8, 128]⟩

abbrev nBuf : Space → Nat
  | .hbm => 13
  | .vmem => 14
  | .smem => 0
  | _ => 0

abbrev bufTy : (tb : Table) → Fin (tcTables nBuf tb) → BufTy
  | .hbm, ⟨0, _⟩ => ⟨S128x8192, .i32⟩
  | .hbm, ⟨1, _⟩ => ⟨S128x8192x20, .f32⟩
  | .hbm, ⟨2, _⟩ => ⟨S128x8192x20, .f32⟩
  | .hbm, ⟨3, _⟩ => ⟨S128, .f32⟩
  | .hbm, ⟨4, _⟩ => ⟨S128x8192, .i1⟩
  | .hbm, ⟨5, _⟩ => ⟨S20x128x8192, .f32⟩
  | .hbm, ⟨6, _⟩ => ⟨S20x128x8192, .f32⟩
  | .hbm, ⟨7, _⟩ => ⟨S128x8192, .i32⟩
  | .hbm, ⟨8, _⟩ => ⟨S128x1, .f32⟩
  | .hbm, ⟨9, _⟩ => ⟨S128x128, .f32⟩
  | .hbm, ⟨10, _⟩ => ⟨S128x8192, .i32⟩
  | .hbm, ⟨11, _⟩ => ⟨S20x128x8192, .f32⟩
  | .hbm, ⟨12, _⟩ => ⟨S128x8192x20, .f32⟩
  | .local _ .vmem, ⟨0, _⟩ => ⟨S8x128, .f32⟩
  | .local _ .vmem, ⟨1, _⟩ => ⟨S8x128, .f32⟩
  | .local _ .vmem, ⟨2, _⟩ => ⟨S20x8x2048, .f32⟩
  | .local _ .vmem, ⟨3, _⟩ => ⟨S20x8x2048, .f32⟩
  | .local _ .vmem, ⟨4, _⟩ => ⟨S20x8x2048, .f32⟩
  | .local _ .vmem, ⟨5, _⟩ => ⟨S20x8x2048, .f32⟩
  | .local _ .vmem, ⟨6, _⟩ => ⟨S8x2048, .i32⟩
  | .local _ .vmem, ⟨7, _⟩ => ⟨S8x2048, .i32⟩
  | .local _ .vmem, ⟨8, _⟩ => ⟨S8x2048, .i32⟩
  | .local _ .vmem, ⟨9, _⟩ => ⟨S8x2048, .i32⟩
  | .local _ .vmem, ⟨10, _⟩ => ⟨S8x2048, .i32⟩
  | .local _ .vmem, ⟨11, _⟩ => ⟨S8x2048, .i32⟩
  | .local _ .vmem, ⟨12, _⟩ => ⟨S20x8x2048, .f32⟩
  | .local _ .vmem, ⟨13, _⟩ => ⟨S20x8x2048, .f32⟩
  | _, _ => ⟨S128x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S20x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S20x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S20x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S128x8192 : Shape := ⟨2, ![128, 8192]⟩
abbrev S128x8192x20 : Shape := ⟨3, ![128, 8192, 20]⟩
abbrev S128 : Shape := ⟨1, ![128]⟩
abbrev S128x1x1 : Shape := ⟨3, ![128, 1, 1]⟩
abbrev S_ : Shape := ⟨0, ![]⟩
abbrev S1048576x20 : Shape := ⟨2, ![1048576, 20]⟩
abbrev S1 : Shape := ⟨1, ![1]⟩
abbrev S2 : Shape := ⟨1, ![2]⟩
abbrev S1x1 : Shape := ⟨2, ![1, 1]⟩
abbrev S1048576 : Shape := ⟨1, ![1048576]⟩
abbrev S128x8192x1 : Shape := ⟨3, ![128, 8192, 1]⟩

abbrev nBuf : Space → Nat
  | .hbm => 314
  | .vmem => 0
  | .smem => 0
  | _ => 0

abbrev hbmTy0_0 (i : Nat) : BufTy := match i % 128 with
  | 0 => ⟨S128x8192, .i32⟩
  | 1 => ⟨S128x8192x20, .f32⟩
  | 2 => ⟨S128x8192x20, .f32⟩
  | 3 => ⟨S128, .f32⟩
  | 4 => ⟨S128x8192, .i1⟩
  | 5 => ⟨S128x1x1, .f32⟩
  | 6 => ⟨S128x8192x20, .f32⟩
  | 7 => ⟨S128x8192x20, .f32⟩
  | 8 => ⟨S128x8192x20, .f32⟩
  | 9 => ⟨S_, .f32⟩
  | 10 => ⟨S_, .f32⟩
  | 11 => ⟨S_, .f32⟩
  | 12 => ⟨S128x8192x20, .f32⟩
  | 13 => ⟨S128x8192x20, .f32⟩
  | 14 => ⟨S_, .f32⟩
  | 15 => ⟨S128x8192x20, .f32⟩
  | 16 => ⟨S128x8192x20, .f32⟩
  | 17 => ⟨S_, .f32⟩
  | 18 => ⟨S128x8192x20, .f32⟩
  | 19 => ⟨S128x8192x20, .f32⟩
  | 20 => ⟨S1048576x20, .f32⟩
  | 21 => ⟨S1048576x20, .f32⟩
  | 22 => ⟨S_, .i32⟩
  | 23 => ⟨S_, .i32⟩
  | 24 => ⟨S_, .i32⟩
  | 25 => ⟨S_, .i32⟩
  | 26 => ⟨S1, .i32⟩
  | 27 => ⟨S_, .i32⟩
  | 28 => ⟨S_, .i32⟩
  | 29 => ⟨S_, .i32⟩
  | 30 => ⟨S1, .i32⟩
  | 31 => ⟨S2, .i32⟩
  | 32 => ⟨S_, .f32⟩
  | 33 => ⟨S_, .f32⟩
  | 34 => ⟨S_, .f32⟩
  | 35 => ⟨S_, .f32⟩
  | 36 => ⟨S1x1, .f32⟩
  | 37 => ⟨S1x1, .f32⟩
  | 38 => ⟨S1, .i32⟩
  | 39 => ⟨S_, .i32⟩
  | 40 => ⟨S1, .i32⟩
  | 41 => ⟨S_, .i32⟩
  | 42 => ⟨S1048576x20, .i64⟩
  | 43 => ⟨S1048576x20, .i64⟩
  | 44 => ⟨S_, .i64⟩
  | 45 => ⟨S1048576x20, .i64⟩
  | 46 => ⟨S1048576x20, .i64⟩
  | 47 => ⟨S_, .i64⟩
  | 48 => ⟨S1048576x20, .i64⟩
  | 49 => ⟨S1048576x20, .i64⟩
  | 50 => ⟨S1048576x20, .i64⟩
  | 51 => ⟨S_, .i64⟩
  | 52 => ⟨S1048576x20, .i64⟩
  | 53 => ⟨S1048576x20, .i64⟩
  | 54 => ⟨S1048576x20, .i32⟩
  | 55 => ⟨S1048576x20, .i32⟩
  | 56 => ⟨S_, .i32⟩
  | 57 => ⟨S_, .i32⟩
  | 58 => ⟨S_, .i32⟩
  | 59 => ⟨S1048576x20, .i32⟩
  | 60 => ⟨S1048576x20, .i32⟩
  | 61 => ⟨S1048576x20, .i32⟩
  | 62 => ⟨S1048576x20, .i32⟩
  | 63 => ⟨S1048576x20, .i32⟩
  | 64 => ⟨S_, .i32⟩
  | 65 => ⟨S1048576x20, .i32⟩
  | 66 => ⟨S1048576x20, .i32⟩
  | 67 => ⟨S_, .i32⟩
  | 68 => ⟨S1048576x20, .i32⟩
  | 69 => ⟨S1048576x20, .i32⟩
  | 70 => ⟨S1048576x20, .i32⟩
  | 71 => ⟨S1048576x20, .i32⟩
  | 72 => ⟨S1048576x20, .i32⟩
  | 73 => ⟨S_, .i32⟩
  | 74 => ⟨S1048576x20, .i32⟩
  | 75 => ⟨S1048576x20, .i32⟩
  | 76 => ⟨S_, .i32⟩
  | 77 => ⟨S1048576x20, .i32⟩
  | 78 => ⟨S1048576x20, .i32⟩
  | 79 => ⟨S1048576x20, .i32⟩
  | 80 => ⟨S1048576x20, .i32⟩
  | 81 => ⟨S1048576x20, .i32⟩
  | 82 => ⟨S_, .i32⟩
  | 83 => ⟨S1048576x20, .i32⟩
  | 84 => ⟨S1048576x20, .i32⟩
  | 85 => ⟨S_, .i32⟩
  | 86 => ⟨S1048576x20, .i32⟩
  | 87 => ⟨S1048576x20, .i32⟩
  | 88 => ⟨S1048576x20, .i32⟩
  | 89 => ⟨S1048576x20, .i32⟩
  | 90 => ⟨S1048576x20, .i32⟩
  | 91 => ⟨S_, .i32⟩
  | 92 => ⟨S1048576x20, .i32⟩
  | 93 => ⟨S1048576x20, .i32⟩
  | 94 => ⟨S_, .i32⟩
  | 95 => ⟨S1048576x20, .i32⟩
  | 96 => ⟨S1048576x20, .i32⟩
  | 97 => ⟨S1048576x20, .i32⟩
  | 98 => ⟨S1048576x20, .i32⟩
  | 99 => ⟨S1048576x20, .i32⟩
  | 100 => ⟨S1048576x20, .i32⟩
  | 101 => ⟨S1048576x20, .i32⟩
  | 102 => ⟨S1048576x20, .i32⟩
  | 103 => ⟨S_, .i32⟩
  | 104 => ⟨S1048576x20, .i32⟩
  | 105 => ⟨S1048576x20, .i32⟩
  | 106 => ⟨S1048576x20, .i32⟩
  | 107 => ⟨S_, .i32⟩
  | 108 => ⟨S1048576x20, .i32⟩
  | 109 => ⟨S1048576x20, .i32⟩
  | 110 => ⟨S_, .i32⟩
  | 111 => ⟨S1048576x20, .i32⟩
  | 112 => ⟨S1048576x20, .i32⟩
  | 113 => ⟨S1048576x20, .i32⟩
  | 114 => ⟨S1048576x20, .i32⟩
  | 115 => ⟨S1048576x20, .i32⟩
  | 116 => ⟨S_, .i32⟩
  | 117 => ⟨S1048576x20, .i32⟩
  | 118 => ⟨S1048576x20, .i32⟩
  | 119 => ⟨S_, .i32⟩
  | 120 => ⟨S1048576x20, .i32⟩
  | 121 => ⟨S1048576x20, .i32⟩
  | 122 => ⟨S1048576x20, .i32⟩
  | 123 => ⟨S1048576x20, .i32⟩
  | 124 => ⟨S1048576x20, .i32⟩
  | 125 => ⟨S_, .i32⟩
  | 126 => ⟨S1048576x20, .i32⟩
  | 127 => ⟨S1048576x20, .i32⟩
  | _ => ⟨S128x8192, .i32⟩

abbrev hbmTy0_1 (i : Nat) : BufTy := match i % 128 with
  | 0 => ⟨S_, .i32⟩
  | 1 => ⟨S1048576x20, .i32⟩
  | 2 => ⟨S1048576x20, .i32⟩
  | 3 => ⟨S1048576x20, .i32⟩
  | 4 => ⟨S1048576x20, .i32⟩
  | 5 => ⟨S1048576x20, .i32⟩
  | 6 => ⟨S_, .i32⟩
  | 7 => ⟨S1048576x20, .i32⟩
  | 8 => ⟨S1048576x20, .i32⟩
  | 9 => ⟨S_, .i32⟩
  | 10 => ⟨S1048576x20, .i32⟩
  | 11 => ⟨S1048576x20, .i32⟩
  | 12 => ⟨S1048576x20, .i32⟩
  | 13 => ⟨S1048576x20, .i32⟩
  | 14 => ⟨S1048576x20, .i32⟩
  | 15 => ⟨S1048576x20, .i32⟩
  | 16 => ⟨S1048576x20, .i32⟩
  | 17 => ⟨S1048576x20, .i32⟩
  | 18 => ⟨S_, .i32⟩
  | 19 => ⟨S1048576x20, .i32⟩
  | 20 => ⟨S1048576x20, .i32⟩
  | 21 => ⟨S1048576x20, .i32⟩
  | 22 => ⟨S_, .i32⟩
  | 23 => ⟨S1048576x20, .i32⟩
  | 24 => ⟨S1048576x20, .i32⟩
  | 25 => ⟨S_, .i32⟩
  | 26 => ⟨S1048576x20, .i32⟩
  | 27 => ⟨S1048576x20, .i32⟩
  | 28 => ⟨S1048576x20, .i32⟩
  | 29 => ⟨S1048576x20, .i32⟩
  | 30 => ⟨S1048576x20, .i32⟩
  | 31 => ⟨S_, .i32⟩
  | 32 => ⟨S1048576x20, .i32⟩
  | 33 => ⟨S1048576x20, .i32⟩
  | 34 => ⟨S_, .i32⟩
  | 35 => ⟨S1048576x20, .i32⟩
  | 36 => ⟨S1048576x20, .i32⟩
  | 37 => ⟨S1048576x20, .i32⟩
  | 38 => ⟨S1048576x20, .i32⟩
  | 39 => ⟨S1048576x20, .i32⟩
  | 40 => ⟨S_, .i32⟩
  | 41 => ⟨S1048576x20, .i32⟩
  | 42 => ⟨S1048576x20, .i32⟩
  | 43 => ⟨S_, .i32⟩
  | 44 => ⟨S1048576x20, .i32⟩
  | 45 => ⟨S1048576x20, .i32⟩
  | 46 => ⟨S1048576x20, .i32⟩
  | 47 => ⟨S1048576x20, .i32⟩
  | 48 => ⟨S1048576x20, .i32⟩
  | 49 => ⟨S_, .i32⟩
  | 50 => ⟨S1048576x20, .i32⟩
  | 51 => ⟨S1048576x20, .i32⟩
  | 52 => ⟨S_, .i32⟩
  | 53 => ⟨S1048576x20, .i32⟩
  | 54 => ⟨S1048576x20, .i32⟩
  | 55 => ⟨S1048576x20, .i32⟩
  | 56 => ⟨S1048576x20, .i32⟩
  | 57 => ⟨S1048576x20, .i32⟩
  | 58 => ⟨S1048576x20, .i32⟩
  | 59 => ⟨S1048576x20, .i32⟩
  | 60 => ⟨S1048576x20, .i32⟩
  | 61 => ⟨S_, .i32⟩
  | 62 => ⟨S1048576x20, .i32⟩
  | 63 => ⟨S1048576x20, .i32⟩
  | 64 => ⟨S1048576x20, .i32⟩
  | 65 => ⟨S_, .i32⟩
  | 66 => ⟨S1048576x20, .i32⟩
  | 67 => ⟨S1048576x20, .i32⟩
  | 68 => ⟨S_, .i32⟩
  | 69 => ⟨S1048576x20, .i32⟩
  | 70 => ⟨S1048576x20, .i32⟩
  | 71 => ⟨S1048576x20, .i32⟩
  | 72 => ⟨S1048576x20, .i32⟩
  | 73 => ⟨S1048576x20, .i32⟩
  | 74 => ⟨S_, .i32⟩
  | 75 => ⟨S1048576x20, .i32⟩
  | 76 => ⟨S1048576x20, .i32⟩
  | 77 => ⟨S_, .i32⟩
  | 78 => ⟨S1048576x20, .i32⟩
  | 79 => ⟨S1048576x20, .i32⟩
  | 80 => ⟨S1048576x20, .i32⟩
  | 81 => ⟨S1048576x20, .i32⟩
  | 82 => ⟨S1048576x20, .i32⟩
  | 83 => ⟨S_, .i32⟩
  | 84 => ⟨S1048576x20, .i32⟩
  | 85 => ⟨S1048576x20, .i32⟩
  | 86 => ⟨S_, .i32⟩
  | 87 => ⟨S1048576x20, .i32⟩
  | 88 => ⟨S1048576x20, .i32⟩
  | 89 => ⟨S1048576x20, .i32⟩
  | 90 => ⟨S1048576x20, .i32⟩
  | 91 => ⟨S1048576x20, .i32⟩
  | 92 => ⟨S_, .i32⟩
  | 93 => ⟨S1048576x20, .i32⟩
  | 94 => ⟨S1048576x20, .i32⟩
  | 95 => ⟨S_, .i32⟩
  | 96 => ⟨S1048576x20, .i32⟩
  | 97 => ⟨S1048576x20, .i32⟩
  | 98 => ⟨S1048576x20, .i32⟩
  | 99 => ⟨S1048576x20, .i32⟩
  | 100 => ⟨S1048576x20, .i32⟩
  | 101 => ⟨S1048576x20, .i32⟩
  | 102 => ⟨S1048576x20, .i32⟩
  | 103 => ⟨S1048576x20, .i32⟩
  | 104 => ⟨S_, .i32⟩
  | 105 => ⟨S1048576x20, .i32⟩
  | 106 => ⟨S1048576x20, .i32⟩
  | 107 => ⟨S1048576x20, .i32⟩
  | 108 => ⟨S_, .i32⟩
  | 109 => ⟨S1048576x20, .i32⟩
  | 110 => ⟨S1048576x20, .i32⟩
  | 111 => ⟨S_, .i32⟩
  | 112 => ⟨S1048576x20, .i32⟩
  | 113 => ⟨S1048576x20, .i32⟩
  | 114 => ⟨S1048576x20, .i32⟩
  | 115 => ⟨S1048576x20, .i32⟩
  | 116 => ⟨S1048576x20, .i32⟩
  | 117 => ⟨S_, .i32⟩
  | 118 => ⟨S1048576x20, .i32⟩
  | 119 => ⟨S1048576x20, .i32⟩
  | 120 => ⟨S_, .i32⟩
  | 121 => ⟨S1048576x20, .i32⟩
  | 122 => ⟨S1048576x20, .i32⟩
  | 123 => ⟨S1048576x20, .i32⟩
  | 124 => ⟨S1048576x20, .i32⟩
  | 125 => ⟨S1048576x20, .i32⟩
  | 126 => ⟨S_, .i32⟩
  | 127 => ⟨S1048576x20, .i32⟩
  | _ => ⟨S128x8192, .i32⟩

abbrev hbmTy0_2 (i : Nat) : BufTy := match i % 128 with
  | 0 => ⟨S1048576x20, .i32⟩
  | 1 => ⟨S_, .i32⟩
  | 2 => ⟨S1048576x20, .i32⟩
  | 3 => ⟨S1048576x20, .i32⟩
  | 4 => ⟨S1048576x20, .i32⟩
  | 5 => ⟨S1048576x20, .i32⟩
  | 6 => ⟨S1048576x20, .i32⟩
  | 7 => ⟨S_, .i32⟩
  | 8 => ⟨S1048576x20, .i32⟩
  | 9 => ⟨S1048576x20, .i32⟩
  | 10 => ⟨S_, .i32⟩
  | 11 => ⟨S1048576x20, .i32⟩
  | 12 => ⟨S1048576x20, .i32⟩
  | 13 => ⟨S1048576x20, .i32⟩
  | 14 => ⟨S1048576x20, .i32⟩
  | 15 => ⟨S1048576x20, .i32⟩
  | 16 => ⟨S1048576x20, .i32⟩
  | 17 => ⟨S1048576x20, .i32⟩
  | 18 => ⟨S1048576x20, .i32⟩
  | 19 => ⟨S_, .i32⟩
  | 20 => ⟨S1048576x20, .i32⟩
  | 21 => ⟨S1048576x20, .i32⟩
  | 22 => ⟨S1048576x20, .i32⟩
  | 23 => ⟨S_, .i32⟩
  | 24 => ⟨S1048576x20, .i32⟩
  | 25 => ⟨S1048576x20, .i32⟩
  | 26 => ⟨S_, .i32⟩
  | 27 => ⟨S1048576x20, .i32⟩
  | 28 => ⟨S1048576x20, .i32⟩
  | 29 => ⟨S1048576x20, .f32⟩
  | 30 => ⟨S_, .f32⟩
  | 31 => ⟨S1048576x20, .f32⟩
  | 32 => ⟨S1048576x20, .f32⟩
  | 33 => ⟨S1x1, .f32⟩
  | 34 => ⟨S1048576x20, .f32⟩
  | 35 => ⟨S1048576x20, .f32⟩
  | 36 => ⟨S1048576x20, .f32⟩
  | 37 => ⟨S1048576x20, .f32⟩
  | 38 => ⟨S1048576x20, .f32⟩
  | 39 => ⟨S1048576x20, .f32⟩
  | 40 => ⟨S_, .f32⟩
  | 41 => ⟨S1048576x20, .f32⟩
  | 42 => ⟨S1048576x20, .f32⟩
  | 43 => ⟨S1048576x20, .f32⟩
  | 44 => ⟨S1048576x20, .f32⟩
  | 45 => ⟨S1048576x20, .f32⟩
  | 46 => ⟨S1048576x20, .f32⟩
  | 47 => ⟨S1048576x20, .f32⟩
  | 48 => ⟨S1048576x20, .i32⟩
  | 49 => ⟨S_, .f32⟩
  | 50 => ⟨S_, .i32⟩
  | 51 => ⟨S1048576, .f32⟩
  | 52 => ⟨S1048576, .i32⟩
  | 53 => ⟨S128x8192, .i32⟩
  | 54 => ⟨S128x8192x1, .i1⟩
  | 55 => ⟨S128x8192x20, .i1⟩
  | 56 => ⟨S128x8192x20, .f32⟩
  | 57 => ⟨S128x8192, .i32⟩
  | _ => ⟨S128x8192, .i32⟩

abbrev hbmTy (i : Nat) : BufTy := match i / 128 with
  | 0 => hbmTy0_0 i
  | 1 => hbmTy0_1 i
  | 2 => hbmTy0_2 i
  | _ => ⟨S128x8192, .i32⟩

abbrev bufTy : (tb : Table) → Fin (tcTables nBuf tb) → BufTy
  | .hbm, ⟨i, _⟩ => hbmTy i
  | _, _ => ⟨S128x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_c : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_c_1 : Ref sig .tc := ⟨.hbm, 51, rfl⟩
abbrev main_call1_v15 : Ref sig .tc := ⟨.hbm, 52, rfl⟩
abbrev main_call1_v16 : Ref sig .tc := ⟨.hbm, 53, rfl⟩
abbrev main_call1_v17 : Ref sig .tc := ⟨.hbm, 54, rfl⟩
abbrev main_call1_v18 : Ref sig .tc := ⟨.hbm, 55, rfl⟩
abbrev main_call1_call0_v0 : Ref sig .tc := ⟨.hbm, 56, rfl⟩
abbrev main_call1_call0_c : Ref sig .tc := ⟨.hbm, 57, rfl⟩
abbrev main_call1_call0_v1 : Ref sig .tc := ⟨.hbm, 58, rfl⟩
abbrev main_call1_call0_v2 : Ref sig .tc := ⟨.hbm, 59, rfl⟩
abbrev main_call1_call0_v3 : Ref sig .tc := ⟨.hbm, 60, rfl⟩
abbrev main_call1_call0_v4 : Ref sig .tc := ⟨.hbm, 61, rfl⟩
abbrev main_call1_call0_v5 : Ref sig .tc := ⟨.hbm, 62, rfl⟩
abbrev main_call1_call0_v6 : Ref sig .tc := ⟨.hbm, 63, rfl⟩
abbrev main_call1_call0_c_0 : Ref sig .tc := ⟨.hbm, 64, rfl⟩
abbrev main_call1_call0_v7 : Ref sig .tc := ⟨.hbm, 65, rfl⟩
abbrev main_call1_call0_v8 : Ref sig .tc := ⟨.hbm, 66, rfl⟩
abbrev main_call1_call0_c_1 : Ref sig .tc := ⟨.hbm, 67, rfl⟩
abbrev main_call1_call0_v9 : Ref sig .tc := ⟨.hbm, 68, rfl⟩
abbrev main_call1_call0_v10 : Ref sig .tc := ⟨.hbm, 69, rfl⟩
abbrev main_call1_call0_v11 : Ref sig .tc := ⟨.hbm, 70, rfl⟩
abbrev main_call1_call0_v12 : Ref sig .tc := ⟨.hbm, 71, rfl⟩
abbrev main_call1_call0_v13 : Ref sig .tc := ⟨.hbm, 72, rfl⟩
abbrev main_call1_call0_c_2 : Ref sig .tc := ⟨.hbm, 73, rfl⟩
abbrev main_call1_call0_v14 : Ref sig .tc := ⟨.hbm, 74, rfl⟩
abbrev main_call1_call0_v15 : Ref sig .tc := ⟨.hbm, 75, rfl⟩
abbrev main_call1_call0_c_3 : Ref sig .tc := ⟨.hbm, 76, rfl⟩
abbrev main_call1_call0_v16 : Ref sig .tc := ⟨.hbm, 77, rfl⟩
abbrev main_call1_call0_v17 : Ref sig .tc := ⟨.hbm, 78, rfl⟩
abbrev main_call1_call0_v18 : Ref sig .tc := ⟨.hbm, 79, rfl⟩
abbrev main_call1_call0_v19 : Ref sig .tc := ⟨.hbm, 80, rfl⟩
abbrev main_call1_call0_v20 : Ref sig .tc := ⟨.hbm, 81, rfl⟩
abbrev main_call1_call0_c_4 : Ref sig .tc := ⟨.hbm, 82, rfl⟩
abbrev main_call1_call0_v21 : Ref sig .tc := ⟨.hbm, 83, rfl⟩
abbrev main_call1_call0_v22 : Ref sig .tc := ⟨.hbm, 84, rfl⟩
abbrev main_call1_call0_c_5 : Ref sig .tc := ⟨.hbm, 85, rfl⟩
abbrev main_call1_call0_v23 : Ref sig .tc := ⟨.hbm, 86, rfl⟩
abbrev main_call1_call0_v24 : Ref sig .tc := ⟨.hbm, 87, rfl⟩
abbrev main_call1_call0_v25 : Ref sig .tc := ⟨.hbm, 88, rfl⟩
abbrev main_call1_call0_v26 : Ref sig .tc := ⟨.hbm, 89, rfl⟩
abbrev main_call1_call0_v27 : Ref sig .tc := ⟨.hbm, 90, rfl⟩
abbrev main_call1_call0_c_6 : Ref sig .tc := ⟨.hbm, 91, rfl⟩
abbrev main_call1_call0_v28 : Ref sig .tc := ⟨.hbm, 92, rfl⟩
abbrev main_call1_call0_v29 : Ref sig .tc := ⟨.hbm, 93, rfl⟩
abbrev main_call1_call0_c_7 : Ref sig .tc := ⟨.hbm, 94, rfl⟩
abbrev main_call1_call0_v30 : Ref sig .tc := ⟨.hbm, 95, rfl⟩
abbrev main_call1_call0_v31 : Ref sig .tc := ⟨.hbm, 96, rfl⟩
abbrev main_call1_call0_v32 : Ref sig .tc := ⟨.hbm, 97, rfl⟩
abbrev main_call1_call0_v33 : Ref sig .tc := ⟨.hbm, 98, rfl⟩
abbrev main_call1_call0_v34 : Ref sig .tc := ⟨.hbm, 99, rfl⟩
abbrev main_call1_call0_v35 : Ref sig .tc := ⟨.hbm, 100, rfl⟩
abbrev main_call1_call0_v36 : Ref sig .tc := ⟨.hbm, 101, rfl⟩
abbrev main_call1_call0_v37 : Ref sig .tc := ⟨.hbm, 102, rfl⟩
abbrev main_call1_call0_c_8 : Ref sig .tc := ⟨.hbm, 103, rfl⟩
abbrev main_call1_call0_v38 : Ref sig .tc := ⟨.hbm, 104, rfl⟩
abbrev main_call1_call0_v39 : Ref sig .tc := ⟨.hbm, 105, rfl⟩
abbrev main_call1_call0_v40 : Ref sig .tc := ⟨.hbm, 106, rfl⟩
abbrev main_call1_call0_c_9 : Ref sig .tc := ⟨.hbm, 107, rfl⟩
abbrev main_call1_call0_v41 : Ref sig .tc := ⟨.hbm, 108, rfl⟩
abbrev main_call1_call0_v42 : Ref sig .tc := ⟨.hbm, 109, rfl⟩
abbrev main_call1_call0_c_10 : Ref sig .tc := ⟨.hbm, 110, rfl⟩
abbrev main_call1_call0_v43 : Ref sig .tc := ⟨.hbm, 111, rfl⟩
abbrev main_call1_call0_v44 : Ref sig .tc := ⟨.hbm, 112, rfl⟩
abbrev main_call1_call0_v45 : Ref sig .tc := ⟨.hbm, 113, rfl⟩
abbrev main_call1_call0_v46 : Ref sig .tc := ⟨.hbm, 114, rfl⟩
abbrev main_call1_call0_v47 : Ref sig .tc := ⟨.hbm, 115, rfl⟩
abbrev main_call1_call0_c_11 : Ref sig .tc := ⟨.hbm, 116, rfl⟩
abbrev main_call1_call0_v48 : Ref sig .tc := ⟨.hbm, 117, rfl⟩
abbrev main_call1_call0_v49 : Ref sig .tc := ⟨.hbm, 118, rfl⟩
abbrev main_call1_call0_c_12 : Ref sig .tc := ⟨.hbm, 119, rfl⟩
abbrev main_call1_call0_v50 : Ref sig .tc := ⟨.hbm, 120, rfl⟩
abbrev main_call1_call0_v51 : Ref sig .tc := ⟨.hbm, 121, rfl⟩
abbrev main_call1_call0_v52 : Ref sig .tc := ⟨.hbm, 122, rfl⟩
abbrev main_call1_call0_v53 : Ref sig .tc := ⟨.hbm, 123, rfl⟩
abbrev main_call1_call0_v54 : Ref sig .tc := ⟨.hbm, 124, rfl⟩
abbrev main_call1_call0_c_13 : Ref sig .tc := ⟨.hbm, 125, rfl⟩
abbrev main_call1_call0_v55 : Ref sig .tc := ⟨.hbm, 126, rfl⟩
abbrev main_call1_call0_v56 : Ref sig .tc := ⟨.hbm, 127, rfl⟩
abbrev main_call1_call0_c_14 : Ref sig .tc := ⟨.hbm, 128, rfl⟩
abbrev main_call1_call0_v57 : Ref sig .tc := ⟨.hbm, 129, rfl⟩
abbrev main_call1_call0_v58 : Ref sig .tc := ⟨.hbm, 130, rfl⟩
abbrev main_call1_call0_v59 : Ref sig .tc := ⟨.hbm, 131, rfl⟩
abbrev main_call1_call0_v60 : Ref sig .tc := ⟨.hbm, 132, rfl⟩
abbrev main_call1_call0_v61 : Ref sig .tc := ⟨.hbm, 133, rfl⟩
abbrev main_call1_call0_c_15 : Ref sig .tc := ⟨.hbm, 134, rfl⟩
abbrev main_call1_call0_v62 : Ref sig .tc := ⟨.hbm, 135, rfl⟩
abbrev main_call1_call0_v63 : Ref sig .tc := ⟨.hbm, 136, rfl⟩
abbrev main_call1_call0_c_16 : Ref sig .tc := ⟨.hbm, 137, rfl⟩
abbrev main_call1_call0_v64 : Ref sig .tc := ⟨.hbm, 138, rfl⟩
abbrev main_call1_call0_v65 : Ref sig .tc := ⟨.hbm, 139, rfl⟩
abbrev main_call1_call0_v66 : Ref sig .tc := ⟨.hbm, 140, rfl⟩
abbrev main_call1_call0_v67 : Ref sig .tc := ⟨.hbm, 141, rfl⟩
abbrev main_call1_call0_v68 : Ref sig .tc := ⟨.hbm, 142, rfl⟩
abbrev main_call1_call0_v69 : Ref sig .tc := ⟨.hbm, 143, rfl⟩
abbrev main_call1_call0_v70 : Ref sig .tc := ⟨.hbm, 144, rfl⟩
abbrev main_call1_call0_v71 : Ref sig .tc := ⟨.hbm, 145, rfl⟩
abbrev main_call1_call0_c_17 : Ref sig .tc := ⟨.hbm, 146, rfl⟩
abbrev main_call1_call0_v72 : Ref sig .tc := ⟨.hbm, 147, rfl⟩
abbrev main_call1_call0_v73 : Ref sig .tc := ⟨.hbm, 148, rfl⟩
abbrev main_call1_call0_v74 : Ref sig .tc := ⟨.hbm, 149, rfl⟩
abbrev main_call1_call0_c_18 : Ref sig .tc := ⟨.hbm, 150, rfl⟩
abbrev main_call1_call0_v75 : Ref sig .tc := ⟨.hbm, 151, rfl⟩
abbrev main_call1_call0_v76 : Ref sig .tc := ⟨.hbm, 152, rfl⟩
abbrev main_call1_call0_c_19 : Ref sig .tc := ⟨.hbm, 153, rfl⟩
abbrev main_call1_call0_v77 : Ref sig .tc := ⟨.hbm, 154, rfl⟩
abbrev main_call1_call0_v78 : Ref sig .tc := ⟨.hbm, 155, rfl⟩
abbrev main_call1_call0_v79 : Ref sig .tc := ⟨.hbm, 156, rfl⟩
abbrev main_call1_call0_v80 : Ref sig .tc := ⟨.hbm, 157, rfl⟩
abbrev main_call1_call0_v81 : Ref sig .tc := ⟨.hbm, 158, rfl⟩
abbrev main_call1_call0_c_20 : Ref sig .tc := ⟨.hbm, 159, rfl⟩
abbrev main_call1_call0_v82 : Ref sig .tc := ⟨.hbm, 160, rfl⟩
abbrev main_call1_call0_v83 : Ref sig .tc := ⟨.hbm, 161, rfl⟩
abbrev main_call1_call0_c_21 : Ref sig .tc := ⟨.hbm, 162, rfl⟩
abbrev main_call1_call0_v84 : Ref sig .tc := ⟨.hbm, 163, rfl⟩
abbrev main_call1_call0_v85 : Ref sig .tc := ⟨.hbm, 164, rfl⟩
abbrev main_call1_call0_v86 : Ref sig .tc := ⟨.hbm, 165, rfl⟩
abbrev main_call1_call0_v87 : Ref sig .tc := ⟨.hbm, 166, rfl⟩
abbrev main_call1_call0_v88 : Ref sig .tc := ⟨.hbm, 167, rfl⟩
abbrev main_call1_call0_c_22 : Ref sig .tc := ⟨.hbm, 168, rfl⟩
abbrev main_call1_call0_v89 : Ref sig .tc := ⟨.hbm, 169, rfl⟩
abbrev main_call1_call0_v90 : Ref sig .tc := ⟨.hbm, 170, rfl⟩
abbrev main_call1_call0_c_23 : Ref sig .tc := ⟨.hbm, 171, rfl⟩
abbrev main_call1_call0_v91 : Ref sig .tc := ⟨.hbm, 172, rfl⟩
abbrev main_call1_call0_v92 : Ref sig .tc := ⟨.hbm, 173, rfl⟩
abbrev main_call1_call0_v93 : Ref sig .tc := ⟨.hbm, 174, rfl⟩
abbrev main_call1_call0_v94 : Ref sig .tc := ⟨.hbm, 175, rfl⟩
abbrev main_call1_call0_v95 : Ref sig .tc := ⟨.hbm, 176, rfl⟩
abbrev main_call1_call0_c_24 : Ref sig .tc := ⟨.hbm, 177, rfl⟩
abbrev main_call1_call0_v96 : Ref sig .tc := ⟨.hbm, 178, rfl⟩
abbrev main_call1_call0_v97 : Ref sig .tc := ⟨.hbm, 179, rfl⟩
abbrev main_call1_call0_c_25 : Ref sig .tc := ⟨.hbm, 180, rfl⟩
abbrev main_call1_call0_v98 : Ref sig .tc := ⟨.hbm, 181, rfl⟩
abbrev main_call1_call0_v99 : Ref sig .tc := ⟨.hbm, 182, rfl⟩
abbrev main_call1_call0_v100 : Ref sig .tc := ⟨.hbm, 183, rfl⟩
abbrev main_call1_call0_v101 : Ref sig .tc := ⟨.hbm, 184, rfl⟩
abbrev main_call1_call0_v102 : Ref sig .tc := ⟨.hbm, 185, rfl⟩
abbrev main_call1_call0_v103 : Ref sig .tc := ⟨.hbm, 186, rfl⟩
abbrev main_call1_call0_v104 : Ref sig .tc := ⟨.hbm, 187, rfl⟩
abbrev main_call1_call0_v105 : Ref sig .tc := ⟨.hbm, 188, rfl⟩
abbrev main_call1_call0_c_26 : Ref sig .tc := ⟨.hbm, 189, rfl⟩
abbrev main_call1_call0_v106 : Ref sig .tc := ⟨.hbm, 190, rfl⟩
abbrev main_call1_call0_v107 : Ref sig .tc := ⟨.hbm, 191, rfl⟩
abbrev main_call1_call0_v108 : Ref sig .tc := ⟨.hbm, 192, rfl⟩
abbrev main_call1_call0_c_27 : Ref sig .tc := ⟨.hbm, 193, rfl⟩
abbrev main_call1_call0_v109 : Ref sig .tc := ⟨.hbm, 194, rfl⟩
abbrev main_call1_call0_v110 : Ref sig .tc := ⟨.hbm, 195, rfl⟩
abbrev main_call1_call0_c_28 : Ref sig .tc := ⟨.hbm, 196, rfl⟩
abbrev main_call1_call0_v111 : Ref sig .tc := ⟨.hbm, 197, rfl⟩
abbrev main_call1_call0_v112 : Ref sig .tc := ⟨.hbm, 198, rfl⟩
abbrev main_call1_call0_v113 : Ref sig .tc := ⟨.hbm, 199, rfl⟩
abbrev main_call1_call0_v114 : Ref sig .tc := ⟨.hbm, 200, rfl⟩
abbrev main_call1_call0_v115 : Ref sig .tc := ⟨.hbm, 201, rfl⟩
abbrev main_call1_call0_c_29 : Ref sig .tc := ⟨.hbm, 202, rfl⟩
abbrev main_call1_call0_v116 : Ref sig .tc := ⟨.hbm, 203, rfl⟩
abbrev main_call1_call0_v117 : Ref sig .tc := ⟨.hbm, 204, rfl⟩
abbrev main_call1_call0_c_30 : Ref sig .tc := ⟨.hbm, 205, rfl⟩
abbrev main_call1_call0_v118 : Ref sig .tc := ⟨.hbm, 206, rfl⟩
abbrev main_call1_call0_v119 : Ref sig .tc := ⟨.hbm, 207, rfl⟩
abbrev main_call1_call0_v120 : Ref sig .tc := ⟨.hbm, 208, rfl⟩
abbrev main_call1_call0_v121 : Ref sig .tc := ⟨.hbm, 209, rfl⟩
abbrev main_call1_call0_v122 : Ref sig .tc := ⟨.hbm, 210, rfl⟩
abbrev main_call1_call0_c_31 : Ref sig .tc := ⟨.hbm, 211, rfl⟩
abbrev main_call1_call0_v123 : Ref sig .tc := ⟨.hbm, 212, rfl⟩
abbrev main_call1_call0_v124 : Ref sig .tc := ⟨.hbm, 213, rfl⟩
abbrev main_call1_call0_c_32 : Ref sig .tc := ⟨.hbm, 214, rfl⟩
abbrev main_call1_call0_v125 : Ref sig .tc := ⟨.hbm, 215, rfl⟩
abbrev main_call1_call0_v126 : Ref sig .tc := ⟨.hbm, 216, rfl⟩
abbrev main_call1_call0_v127 : Ref sig .tc := ⟨.hbm, 217, rfl⟩
abbrev main_call1_call0_v128 : Ref sig .tc := ⟨.hbm, 218, rfl⟩
abbrev main_call1_call0_v129 : Ref sig .tc := ⟨.hbm, 219, rfl⟩
abbrev main_call1_call0_c_33 : Ref sig .tc := ⟨.hbm, 220, rfl⟩
abbrev main_call1_call0_v130 : Ref sig .tc := ⟨.hbm, 221, rfl⟩
abbrev main_call1_call0_v131 : Ref sig .tc := ⟨.hbm, 222, rfl⟩
abbrev main_call1_call0_c_34 : Ref sig .tc := ⟨.hbm, 223, rfl⟩
abbrev main_call1_call0_v132 : Ref sig .tc := ⟨.hbm, 224, rfl⟩
abbrev main_call1_call0_v133 : Ref sig .tc := ⟨.hbm, 225, rfl⟩
abbrev main_call1_call0_v134 : Ref sig .tc := ⟨.hbm, 226, rfl⟩
abbrev main_call1_call0_v135 : Ref sig .tc := ⟨.hbm, 227, rfl⟩
abbrev main_call1_call0_v136 : Ref sig .tc := ⟨.hbm, 228, rfl⟩
abbrev main_call1_call0_v137 : Ref sig .tc := ⟨.hbm, 229, rfl⟩
abbrev main_call1_call0_v138 : Ref sig .tc := ⟨.hbm, 230, rfl⟩
abbrev main_call1_call0_v139 : Ref sig .tc := ⟨.hbm, 231, rfl⟩
abbrev main_call1_call0_c_35 : Ref sig .tc := ⟨.hbm, 232, rfl⟩
abbrev main_call1_call0_v140 : Ref sig .tc := ⟨.hbm, 233, rfl⟩
abbrev main_call1_call0_v141 : Ref sig .tc := ⟨.hbm, 234, rfl⟩
abbrev main_call1_call0_v142 : Ref sig .tc := ⟨.hbm, 235, rfl⟩
abbrev main_call1_call0_c_36 : Ref sig .tc := ⟨.hbm, 236, rfl⟩
abbrev main_call1_call0_v143 : Ref sig .tc := ⟨.hbm, 237, rfl⟩
abbrev main_call1_call0_v144 : Ref sig .tc := ⟨.hbm, 238, rfl⟩
abbrev main_call1_call0_c_37 : Ref sig .tc := ⟨.hbm, 239, rfl⟩
abbrev main_call1_call0_v145 : Ref sig .tc := ⟨.hbm, 240, rfl⟩
abbrev main_call1_call0_v146 : Ref sig .tc := ⟨.hbm, 241, rfl⟩
abbrev main_call1_call0_v147 : Ref sig .tc := ⟨.hbm, 242, rfl⟩
abbrev main_call1_call0_v148 : Ref sig .tc := ⟨.hbm, 243, rfl⟩
abbrev main_call1_call0_v149 : Ref sig .tc := ⟨.hbm, 244, rfl⟩
abbrev main_call1_call0_c_38 : Ref sig .tc := ⟨.hbm, 245, rfl⟩
abbrev main_call1_call0_v150 : Ref sig .tc := ⟨.hbm, 246, rfl⟩
abbrev main_call1_call0_v151 : Ref sig .tc := ⟨.hbm, 247, rfl⟩
abbrev main_call1_call0_c_39 : Ref sig .tc := ⟨.hbm, 248, rfl⟩
abbrev main_call1_call0_v152 : Ref sig .tc := ⟨.hbm, 249, rfl⟩
abbrev main_call1_call0_v153 : Ref sig .tc := ⟨.hbm, 250, rfl⟩
abbrev main_call1_call0_v154 : Ref sig .tc := ⟨.hbm, 251, rfl⟩
abbrev main_call1_call0_v155 : Ref sig .tc := ⟨.hbm, 252, rfl⟩
abbrev main_call1_call0_v156 : Ref sig .tc := ⟨.hbm, 253, rfl⟩
abbrev main_call1_call0_c_40 : Ref sig .tc := ⟨.hbm, 254, rfl⟩
abbrev main_call1_call0_v157 : Ref sig .tc := ⟨.hbm, 255, rfl⟩
abbrev main_call1_call0_v158 : Ref sig .tc := ⟨.hbm, 256, rfl⟩
abbrev main_call1_call0_c_41 : Ref sig .tc := ⟨.hbm, 257, rfl⟩
abbrev main_call1_call0_v159 : Ref sig .tc := ⟨.hbm, 258, rfl⟩
abbrev main_call1_call0_v160 : Ref sig .tc := ⟨.hbm, 259, rfl⟩
abbrev main_call1_call0_v161 : Ref sig .tc := ⟨.hbm, 260, rfl⟩
abbrev main_call1_call0_v162 : Ref sig .tc := ⟨.hbm, 261, rfl⟩
abbrev main_call1_call0_v163 : Ref sig .tc := ⟨.hbm, 262, rfl⟩
abbrev main_call1_call0_c_42 : Ref sig .tc := ⟨.hbm, 263, rfl⟩
abbrev main_call1_call0_v164 : Ref sig .tc := ⟨.hbm, 264, rfl⟩
abbrev main_call1_call0_v165 : Ref sig .tc := ⟨.hbm, 265, rfl⟩
abbrev main_call1_call0_c_43 : Ref sig .tc := ⟨.hbm, 266, rfl⟩
abbrev main_call1_call0_v166 : Ref sig .tc := ⟨.hbm, 267, rfl⟩
abbrev main_call1_call0_v167 : Ref sig .tc := ⟨.hbm, 268, rfl⟩
abbrev main_call1_call0_v168 : Ref sig .tc := ⟨.hbm, 269, rfl⟩
abbrev main_call1_call0_v169 : Ref sig .tc := ⟨.hbm, 270, rfl⟩
abbrev main_call1_call0_v170 : Ref sig .tc := ⟨.hbm, 271, rfl⟩
abbrev main_call1_v19_0 : Ref sig .tc := ⟨.hbm, 272, rfl⟩
abbrev main_call1_call0_v172 : Ref sig .tc := ⟨.hbm, 273, rfl⟩
abbrev main_call1_call0_v173 : Ref sig .tc := ⟨.hbm, 274, rfl⟩
abbrev main_call1_call0_c_44 : Ref sig .tc := ⟨.hbm, 275, rfl⟩
abbrev main_call1_call0_v174 : Ref sig .tc := ⟨.hbm, 276, rfl⟩
abbrev main_call1_v19_1 : Ref sig .tc := ⟨.hbm, 277, rfl⟩
abbrev main_call1_v20 : Ref sig .tc := ⟨.hbm, 278, rfl⟩
abbrev main_call1_c_2 : Ref sig .tc := ⟨.hbm, 279, rfl⟩
abbrev main_call1_v21 : Ref sig .tc := ⟨.hbm, 280, rfl⟩
abbrev main_call1_v22 : Ref sig .tc := ⟨.hbm, 281, rfl⟩
abbrev main_call1_c_3 : Ref sig .tc := ⟨.hbm, 282, rfl⟩
abbrev main_call1_v23 : Ref sig .tc := ⟨.hbm, 283, rfl⟩
abbrev main_call1_v24 : Ref sig .tc := ⟨.hbm, 284, rfl⟩
abbrev main_call1_v25 : Ref sig .tc := ⟨.hbm, 285, rfl⟩
abbrev main_call1_cst : Ref sig .tc := ⟨.hbm, 286, rfl⟩
abbrev main_call1_v26 : Ref sig .tc := ⟨.hbm, 287, rfl⟩
abbrev main_call1_v27 : Ref sig .tc := ⟨.hbm, 288, rfl⟩
abbrev main_call1_v28 : Ref sig .tc := ⟨.hbm, 289, rfl⟩
abbrev main_call1_v29 : Ref sig .tc := ⟨.hbm, 290, rfl⟩
abbrev main_call1_v30 : Ref sig .tc := ⟨.hbm, 291, rfl⟩
abbrev main_call1_v31 : Ref sig .tc := ⟨.hbm, 292, rfl⟩
abbrev main_call1_v32 : Ref sig .tc := ⟨.hbm, 293, rfl⟩
abbrev main_call1_v33 : Ref sig .tc := ⟨.hbm, 294, rfl⟩
abbrev main_v16 : Ref sig .tc := ⟨.hbm, 295, rfl⟩
abbrev main_cst_6 : Ref sig .tc := ⟨.hbm, 296, rfl⟩
abbrev main_v17 : Ref sig .tc := ⟨.hbm, 297, rfl⟩
abbrev main_v18 : Ref sig .tc := ⟨.hbm, 298, rfl⟩
abbrev main_v19 : Ref sig .tc := ⟨.hbm, 299, rfl⟩
abbrev main_v20 : Ref sig .tc := ⟨.hbm, 300, rfl⟩
abbrev main_v21 : Ref sig .tc := ⟨.hbm, 301, rfl⟩
abbrev main_v22 : Ref sig .tc := ⟨.hbm, 302, rfl⟩
abbrev main_v23 : Ref sig .tc := ⟨.hbm, 303, rfl⟩
abbrev main_call2_v0 : Ref sig .tc := ⟨.hbm, 304, rfl⟩
abbrev main_call2_cst : Ref sig .tc := ⟨.hbm, 305, rfl⟩
abbrev main_call2_c : Ref sig .tc := ⟨.hbm, 306, rfl⟩
abbrev main_call2_v1_0 : Ref sig .tc := ⟨.hbm, 307, rfl⟩
abbrev main_v24 : Ref sig .tc := ⟨.hbm, 308, rfl⟩
abbrev main_v25 : Ref sig .tc := ⟨.hbm, 309, rfl⟩
abbrev main_v26 : Ref sig .tc := ⟨.hbm, 310, rfl⟩
abbrev main_call3_v0 : Ref sig .tc := ⟨.hbm, 311, rfl⟩
abbrev main_v27 : Ref sig .tc := ⟨.hbm, 312, rfl⟩
abbrev main_v28 : Ref sig .tc := ⟨.hbm, 313, rfl⟩

abbrev nD : Nat := 1
abbrev τ : Topo := Topo.v7x

variable {F : FTy → Type} [FloatOps F]
-- ==== Proof.Chunk.lean ====
/- The work of the kernel on one chunk of 128 lanes, written once: the new features, the noise, the scores and the
   running argmax, as the kernel's own vector operations; and the two output blocks as sixteen of these chunks. -/
module

public import proofs.«01_k».proof.Proof.Gen.KernelIdeal.Frame

@[expose] public section

set_option maxRecDepth 16384

noncomputable section

namespace Cert.Proof.Chunk

open Idealize.ShloMosaic Cert.KernelIdeal Cert.KernelIdeal.Gen

variable {F : FTy → Type} [FloatOps F]

/-- A word per class, row and lane of a chunk. -/
abbrev I : Type := IVec S20x8x128 32

/-- The mixing half of a round: `b` rotated left by `r` (and right by `s`, its complement), xor `a`. -/
def turn (r s : BitVec 32) (a b : I) : I := xori (ori (shli b (broadcast _ r)) (shrui b (broadcast _ s))) a

/-- The random words of a chunk: threefry on the key `(0, 42)`, from the second counter word `x` with the key added. -/
def noise (x : I) : I :=
  have b1 : I := turn 13 19 x x
  have a2 : I := addi x b1
  have b2 : I := turn 15 17 a2 b1
  have a3 : I := addi a2 b2
  have b3 : I := turn 26 6 a3 b2
  have a4 : I := addi a3 b3
  have b4 : I := turn 6 26 a4 b3
  have p1 : I := addi a4 (broadcast _ 42#32)
  have q1 : I := addi (addi b4 (broadcast _ 466689008#32)) (broadcast _ 1#32)
  have a5 : I := addi p1 q1
  have b5 : I := turn 17 15 a5 q1
  have a6 : I := addi a5 b5
  have b6 : I := turn 29 3 a6 b5
  have a7 : I := addi a6 b6
  have b7 : I := turn 16 16 a7 b6
  have a8 : I := addi a7 b7
  have b8 : I := turn 24 8 a8 b7
  have p2 : I := addi a8 (broadcast _ 466689008#32)
  have q2 : I := addi (addi b8 (broadcast _ 0#32)) (broadcast _ 2#32)
  have a9 : I := addi p2 q2
  have b9 : I := turn 13 19 a9 q2
  have a10 : I := addi a9 b9
  have b10 : I := turn 15 17 a10 b9
  have a11 : I := addi a10 b10
  have b11 : I := turn 26 6 a11 b10
  have a12 : I := addi a11 b11
  have b12 : I := turn 6 26 a12 b11
  have p3 : I := addi a12 (broadcast _ 0#32)
  have q3 : I := addi (addi b12 (broadcast _ 42#32)) (broadcast _ 3#32)
  have a13 : I := addi p3 q3
  have b13 : I := turn 17 15 a13 q3
  have a14 : I := addi a13 b13
  have b14 : I := turn 29 3 a14 b13
  have a15 : I := addi a14 b14
  have b15 : I := turn 16 16 a15 b14
  have a16 : I := addi a15 b15
  have b16 : I := turn 24 8 a16 b15
  have p4 : I := addi a16 (broadcast _ 42#32)
  have q4 : I := addi (addi b16 (broadcast _ 466689008#32)) (broadcast _ 4#32)
  have a17 : I := addi p4 q4
  have b17 : I := turn 13 19 a17 q4
  have a18 : I := addi a17 b17
  have b18 : I := turn 15 17 a18 b17
  have a19 : I := addi a18 b18
  have b19 : I := turn 26 6 a19 b18
  have a20 : I := addi a19 b19
  have b20 : I := turn 6 26 a20 b19
  have p5 : I := addi a20 (broadcast _ 466689008#32)
  have q5 : I := addi (addi b20 (broadcast _ 0#32)) (broadcast _ 5#32)
  xori p5 q5

/-- The counter words of chunk `j`: those of the first chunk, 2560 further with each chunk. -/
def count (i : grid0.Coords) : ℕ → I
  | 0 => k0_pay5 i
  | j + 1 => addi (count i j) (broadcast S20x8x128 2560#32)

/-- The new features of a chunk: `ct + vc · dt`. -/
def moved (dt : Vec F S8x1 .f32) (ct vc : Vec F S20x8x128 .f32) : FVec F S20x8x128 .f32 := k0_pay7 dt ct vc

/-- The log probabilities of a chunk: `log (min 1 (max 0 c) + 1e-8)`. -/
def logits (dt : Vec F S8x1 .f32) (ct vc : Vec F S20x8x128 .f32) : FVec F S20x8x128 .f32 := k0_pay8 dt ct vc

/-- The scores of a chunk: the log probability less `log (−log u)`, `u` the uniform variable of the random word. -/
def score (x : I) (lp : FVec F S20x8x128 .f32) : FVec F S20x8x128 .f32 :=
  have w : I := ori (shrui (noise x) (broadcast _ 9#32)) (broadcast _ 1065353216#32)
  have f : FVec F S20x8x128 .f32 := subf (bitcastToFloat .f32 w) (broadcast _ (Scalar.ofBits .f32 0x3F800000#32))
  have u : FVec F S20x8x128 .f32 := maximumf (broadcast _ (Scalar.ofBits .f32 0x00800000#32)) f
  subf lp (log (subf (broadcast _ (Scalar.ofBits .f32 0x00000000#32)) (log u)))

/-- The scores of class `k`. -/
def row (v : FVec F S20x8x128 .f32) (k : ℕ) (h : S20x8x128.Slices ![k, 0, 0] S1x8x128) : FVec F S8x128 .f32 :=
  shapeCast S8x128 (extractStridedSlice S1x8x128 ![k, 0, 0] v h) shapeCasts_S1x8x128_S8x128

/-- The argmax of the scores over the classes, by a running maximum that a later class must exceed. -/
def best (v : FVec F S20x8x128 .f32) : IVec S8x128 32 :=
  have s0 : FVec F S8x128 .f32 := row v 0 slices_S20x8x128_o0_0_0_S1x8x128
  have i0 : IVec S8x128 32 := broadcast _ 0#32
  have c1 : IVec S8x128 1 := cmpf .ogt (row v 1 slices_S20x8x128_o1_0_0_S1x8x128) s0
  have s1 : FVec F S8x128 .f32 := select c1 (row v 1 slices_S20x8x128_o1_0_0_S1x8x128) s0
  have i1 : IVec S8x128 32 := select c1 (broadcast _ 1#32) i0
  have c2 : IVec S8x128 1 := cmpf .ogt (row v 2 slices_S20x8x128_o2_0_0_S1x8x128) s1
  have s2 : FVec F S8x128 .f32 := select c2 (row v 2 slices_S20x8x128_o2_0_0_S1x8x128) s1
  have i2 : IVec S8x128 32 := select c2 (broadcast _ 2#32) i1
  have c3 : IVec S8x128 1 := cmpf .ogt (row v 3 slices_S20x8x128_o3_0_0_S1x8x128) s2
  have s3 : FVec F S8x128 .f32 := select c3 (row v 3 slices_S20x8x128_o3_0_0_S1x8x128) s2
  have i3 : IVec S8x128 32 := select c3 (broadcast _ 3#32) i2
  have c4 : IVec S8x128 1 := cmpf .ogt (row v 4 slices_S20x8x128_o4_0_0_S1x8x128) s3
  have s4 : FVec F S8x128 .f32 := select c4 (row v 4 slices_S20x8x128_o4_0_0_S1x8x128) s3
  have i4 : IVec S8x128 32 := select c4 (broadcast _ 4#32) i3
  have c5 : IVec S8x128 1 := cmpf .ogt (row v 5 slices_S20x8x128_o5_0_0_S1x8x128) s4
  have s5 : FVec F S8x128 .f32 := select c5 (row v 5 slices_S20x8x128_o5_0_0_S1x8x128) s4
  have i5 : IVec S8x128 32 := select c5 (broadcast _ 5#32) i4
  have c6 : IVec S8x128 1 := cmpf .ogt (row v 6 slices_S20x8x128_o6_0_0_S1x8x128) s5
  have s6 : FVec F S8x128 .f32 := select c6 (row v 6 slices_S20x8x128_o6_0_0_S1x8x128) s5
  have i6 : IVec S8x128 32 := select c6 (broadcast _ 6#32) i5
  have c7 : IVec S8x128 1 := cmpf .ogt (row v 7 slices_S20x8x128_o7_0_0_S1x8x128) s6
  have s7 : FVec F S8x128 .f32 := select c7 (row v 7 slices_S20x8x128_o7_0_0_S1x8x128) s6
  have i7 : IVec S8x128 32 := select c7 (broadcast _ 7#32) i6
  have c8 : IVec S8x128 1 := cmpf .ogt (row v 8 slices_S20x8x128_o8_0_0_S1x8x128) s7
  have s8 : FVec F S8x128 .f32 := select c8 (row v 8 slices_S20x8x128_o8_0_0_S1x8x128) s7
  have i8 : IVec S8x128 32 := select c8 (broadcast _ 8#32) i7
  have c9 : IVec S8x128 1 := cmpf .ogt (row v 9 slices_S20x8x128_o9_0_0_S1x8x128) s8
  have s9 : FVec F S8x128 .f32 := select c9 (row v 9 slices_S20x8x128_o9_0_0_S1x8x128) s8
  have i9 : IVec S8x128 32 := select c9 (broadcast _ 9#32) i8
  have c10 : IVec S8x128 1 := cmpf .ogt (row v 10 slices_S20x8x128_o10_0_0_S1x8x128) s9
  have s10 : FVec F S8x128 .f32 := select c10 (row v 10 slices_S20x8x128_o10_0_0_S1x8x128) s9
  have i10 : IVec S8x128 32 := select c10 (broadcast _ 10#32) i9
  have c11 : IVec S8x128 1 := cmpf .ogt (row v 11 slices_S20x8x128_o11_0_0_S1x8x128) s10
  have s11 : FVec F S8x128 .f32 := select c11 (row v 11 slices_S20x8x128_o11_0_0_S1x8x128) s10
  have i11 : IVec S8x128 32 := select c11 (broadcast _ 11#32) i10
  have c12 : IVec S8x128 1 := cmpf .ogt (row v 12 slices_S20x8x128_o12_0_0_S1x8x128) s11
  have s12 : FVec F S8x128 .f32 := select c12 (row v 12 slices_S20x8x128_o12_0_0_S1x8x128) s11
  have i12 : IVec S8x128 32 := select c12 (broadcast _ 12#32) i11
  have c13 : IVec S8x128 1 := cmpf .ogt (row v 13 slices_S20x8x128_o13_0_0_S1x8x128) s12
  have s13 : FVec F S8x128 .f32 := select c13 (row v 13 slices_S20x8x128_o13_0_0_S1x8x128) s12
  have i13 : IVec S8x128 32 := select c13 (broadcast _ 13#32) i12
  have c14 : IVec S8x128 1 := cmpf .ogt (row v 14 slices_S20x8x128_o14_0_0_S1x8x128) s13
  have s14 : FVec F S8x128 .f32 := select c14 (row v 14 slices_S20x8x128_o14_0_0_S1x8x128) s13
  have i14 : IVec S8x128 32 := select c14 (broadcast _ 14#32) i13
  have c15 : IVec S8x128 1 := cmpf .ogt (row v 15 slices_S20x8x128_o15_0_0_S1x8x128) s14
  have s15 : FVec F S8x128 .f32 := select c15 (row v 15 slices_S20x8x128_o15_0_0_S1x8x128) s14
  have i15 : IVec S8x128 32 := select c15 (broadcast _ 15#32) i14
  have c16 : IVec S8x128 1 := cmpf .ogt (row v 16 slices_S20x8x128_o16_0_0_S1x8x128) s15
  have s16 : FVec F S8x128 .f32 := select c16 (row v 16 slices_S20x8x128_o16_0_0_S1x8x128) s15
  have i16 : IVec S8x128 32 := select c16 (broadcast _ 16#32) i15
  have c17 : IVec S8x128 1 := cmpf .ogt (row v 17 slices_S20x8x128_o17_0_0_S1x8x128) s16
  have s17 : FVec F S8x128 .f32 := select c17 (row v 17 slices_S20x8x128_o17_0_0_S1x8x128) s16
  have i17 : IVec S8x128 32 := select c17 (broadcast _ 17#32) i16
  have c18 : IVec S8x128 1 := cmpf .ogt (row v 18 slices_S20x8x128_o18_0_0_S1x8x128) s17
  have s18 : FVec F S8x128 .f32 := select c18 (row v 18 slices_S20x8x128_o18_0_0_S1x8x128) s17
  have i18 : IVec S8x128 32 := select c18 (broadcast _ 18#32) i17
  have c19 : IVec S8x128 1 := cmpf .ogt (row v 19 slices_S20x8x128_o19_0_0_S1x8x128) s18
  have i19 : IVec S8x128 32 := select c19 (broadcast _ 19#32) i18
  i19

/-- The tokens of a chunk: the argmax where the mask is set, the old token elsewhere. -/
def tok (v : FVec F S20x8x128 .f32) (mask xt : Vec F S8x128 .i32) : IVec S8x128 32 :=
  select (cmpi .ne (shapeCast S8x128 mask shapeCasts_S8x128_S8x128) (broadcast _ 0#32)) (best v) xt

/-- The features of a chunk: the new ones where the mask is set, the old ones elsewhere. -/
def feat (dt : Vec F S8x1 .f32) (ct vc : Vec F S20x8x128 .f32) (mask : Vec F S8x128 .i32) : FVec F S20x8x128 .f32 :=
  k0_pay106 (k0_pay6 ct) (moved dt ct vc) mask

/-- The block of tokens is the sixteen chunks' tokens. -/
theorem tokens_eq (i : grid0.Coords) (x0 : Vec F S8x128 .f32) (x1 x2 : Vec F S20x8x2048 .f32) (x3 x4 : Vec F S8x2048 .i32) :
    out0_5 i x0 x1 x2 x3 x4 = View.canon [⟨r0_32, tok (score (count i 15) (logits (View.ld x0 r0_0) (View.ld x1 r0_31) (View.ld x2 r0_31))) (View.ld x4 r0_32) (View.ld x3 r0_32)⟩,
    ⟨r0_30, tok (score (count i 14) (logits (View.ld x0 r0_0) (View.ld x1 r0_29) (View.ld x2 r0_29))) (View.ld x4 r0_30) (View.ld x3 r0_30)⟩,
    ⟨r0_28, tok (score (count i 13) (logits (View.ld x0 r0_0) (View.ld x1 r0_27) (View.ld x2 r0_27))) (View.ld x4 r0_28) (View.ld x3 r0_28)⟩,
    ⟨r0_26, tok (score (count i 12) (logits (View.ld x0 r0_0) (View.ld x1 r0_25) (View.ld x2 r0_25))) (View.ld x4 r0_26) (View.ld x3 r0_26)⟩,
    ⟨r0_24, tok (score (count i 11) (logits (View.ld x0 r0_0) (View.ld x1 r0_23) (View.ld x2 r0_23))) (View.ld x4 r0_24) (View.ld x3 r0_24)⟩,
    ⟨r0_22, tok (score (count i 10) (logits (View.ld x0 r0_0) (View.ld x1 r0_21) (View.ld x2 r0_21))) (View.ld x4 r0_22) (View.ld x3 r0_22)⟩,
    ⟨r0_20, tok (score (count i 9) (logits (View.ld x0 r0_0) (View.ld x1 r0_19) (View.ld x2 r0_19))) (View.ld x4 r0_20) (View.ld x3 r0_20)⟩,
    ⟨r0_18, tok (score (count i 8) (logits (View.ld x0 r0_0) (View.ld x1 r0_17) (View.ld x2 r0_17))) (View.ld x4 r0_18) (View.ld x3 r0_18)⟩,
    ⟨r0_16, tok (score (count i 7) (logits (View.ld x0 r0_0) (View.ld x1 r0_15) (View.ld x2 r0_15))) (View.ld x4 r0_16) (View.ld x3 r0_16)⟩,
    ⟨r0_14, tok (score (count i 6) (logits (View.ld x0 r0_0) (View.ld x1 r0_13) (View.ld x2 r0_13))) (View.ld x4 r0_14) (View.ld x3 r0_14)⟩,
    ⟨r0_12, tok (score (count i 5) (logits (View.ld x0 r0_0) (View.ld x1 r0_11) (View.ld x2 r0_11))) (View.ld x4 r0_12) (View.ld x3 r0_12)⟩,
    ⟨r0_10, tok (score (count i 4) (logits (View.ld x0 r0_0) (View.ld x1 r0_9) (View.ld x2 r0_9))) (View.ld x4 r0_10) (View.ld x3 r0_10)⟩,
    ⟨r0_8, tok (score (count i 3) (logits (View.ld x0 r0_0) (View.ld x1 r0_7) (View.ld x2 r0_7))) (View.ld x4 r0_8) (View.ld x3 r0_8)⟩,
    ⟨r0_6, tok (score (count i 2) (logits (View.ld x0 r0_0) (View.ld x1 r0_5) (View.ld x2 r0_5))) (View.ld x4 r0_6) (View.ld x3 r0_6)⟩,
    ⟨r0_4, tok (score (count i 1) (logits (View.ld x0 r0_0) (View.ld x1 r0_3) (View.ld x2 r0_3))) (View.ld x4 r0_4) (View.ld x3 r0_4)⟩,
    ⟨r0_2, tok (score (count i 0) (logits (View.ld x0 r0_0) (View.ld x1 r0_1) (View.ld x2 r0_1))) (View.ld x4 r0_2) (View.ld x3 r0_2)⟩] := rfl

/-- The block of features is the sixteen chunks' features. -/
theorem features_eq (i : grid0.Coords) (x0 : Vec F S8x128 .f32) (x1 x2 : Vec F S20x8x2048 .f32) (x3 x4 : Vec F S8x2048 .i32) :
    out0_6 i x0 x1 x2 x3 x4 = View.canon [⟨r0_31, feat (View.ld x0 r0_0) (View.ld x1 r0_31) (View.ld x2 r0_31) (View.ld x4 r0_32)⟩,
    ⟨r0_29, feat (View.ld x0 r0_0) (View.ld x1 r0_29) (View.ld x2 r0_29) (View.ld x4 r0_30)⟩,
    ⟨r0_27, feat (View.ld x0 r0_0) (View.ld x1 r0_27) (View.ld x2 r0_27) (View.ld x4 r0_28)⟩,
    ⟨r0_25, feat (View.ld x0 r0_0) (View.ld x1 r0_25) (View.ld x2 r0_25) (View.ld x4 r0_26)⟩,
    ⟨r0_23, feat (View.ld x0 r0_0) (View.ld x1 r0_23) (View.ld x2 r0_23) (View.ld x4 r0_24)⟩,
    ⟨r0_21, feat (View.ld x0 r0_0) (View.ld x1 r0_21) (View.ld x2 r0_21) (View.ld x4 r0_22)⟩,
    ⟨r0_19, feat (View.ld x0 r0_0) (View.ld x1 r0_19) (View.ld x2 r0_19) (View.ld x4 r0_20)⟩,
    ⟨r0_17, feat (View.ld x0 r0_0) (View.ld x1 r0_17) (View.ld x2 r0_17) (View.ld x4 r0_18)⟩,
    ⟨r0_15, feat (View.ld x0 r0_0) (View.ld x1 r0_15) (View.ld x2 r0_15) (View.ld x4 r0_16)⟩,
    ⟨r0_13, feat (View.ld x0 r0_0) (View.ld x1 r0_13) (View.ld x2 r0_13) (View.ld x4 r0_14)⟩,
    ⟨r0_11, feat (View.ld x0 r0_0) (View.ld x1 r0_11) (View.ld x2 r0_11) (View.ld x4 r0_12)⟩,
    ⟨r0_9, feat (View.ld x0 r0_0) (View.ld x1 r0_9) (View.ld x2 r0_9) (View.ld x4 r0_10)⟩,
    ⟨r0_7, feat (View.ld x0 r0_0) (View.ld x1 r0_7) (View.ld x2 r0_7) (View.ld x4 r0_8)⟩,
    ⟨r0_5, feat (View.ld x0 r0_0) (View.ld x1 r0_5) (View.ld x2 r0_5) (View.ld x4 r0_6)⟩,
    ⟨r0_3, feat (View.ld x0 r0_0) (View.ld x1 r0_3) (View.ld x2 r0_3) (View.ld x4 r0_4)⟩,
    ⟨r0_1, feat (View.ld x0 r0_0) (View.ld x1 r0_1) (View.ld x2 r0_1) (View.ld x4 r0_2)⟩] := rfl

end Cert.Proof.Chunk

end
-- ==== Proof.Word.lean ====
/- The random word of one counter word: threefry with the key `(0, 42)`, on single 32-bit words. -/
module

public import Idealize.ShloMosaic.PureOps

@[expose] public section

namespace Cert.Proof.Word

open Idealize.ShloMosaic

/-- The mixing half of a round: `b` rotated left by `r` (and right by `s`, its complement), xor `a`. -/
def turn (r s a b : BitVec 32) : BitVec 32 := ((b <<< r) ||| (b >>> s)) ^^^ a

/-- A round: `a + b`, and the mixing half with it. -/
def mix (r s : BitVec 32) (p : BitVec 32 × BitVec 32) : BitVec 32 × BitVec 32 := (p.1 + p.2, turn r s (p.1 + p.2) p.2)

/-- A key injection: `k₁` to the first word, `k₂` and the number of the injection to the second. -/
def inj (i k₁ k₂ : BitVec 32) (p : BitVec 32 × BitVec 32) : BitVec 32 × BitVec 32 := (p.1 + k₁, p.2 + k₂ + i)

/-- The twenty rounds after the key has been added, from the key words `k₀`, `k₁`, `k₂`. -/
def rounds (k₀ k₁ k₂ : BitVec 32) (p : BitVec 32 × BitVec 32) : BitVec 32 × BitVec 32 :=
  inj 5 k₂ k₀ <| mix 6 26 <| mix 26 6 <| mix 15 17 <| mix 13 19 <|
  inj 4 k₁ k₂ <| mix 24 8 <| mix 16 16 <| mix 29 3 <| mix 17 15 <|
  inj 3 k₀ k₁ <| mix 6 26 <| mix 26 6 <| mix 15 17 <| mix 13 19 <|
  inj 2 k₂ k₀ <| mix 24 8 <| mix 16 16 <| mix 29 3 <| mix 17 15 <|
  inj 1 k₁ k₂ <| mix 6 26 <| mix 26 6 <| mix 15 17 <| mix 13 19 p

/-- The random word of the counter `(0, x − 42)`: the two words of the result, one xor the other. -/
def noise (x : BitVec 32) : BitVec 32 :=
  (rounds 0#32 42#32 466689008#32 (0#32, x)).1 ^^^ (rounds 0#32 42#32 466689008#32 (0#32, x)).2

/-- A left shift of the vector unit below the width is the shift. -/
theorem shli_eq (u : ArithUnit) {x y : BitVec 32} (h : y.toNat < 32) : IntOp.shli u x y = x <<< y := by
  simp [IntOp.shli, h]

/-- A right shift below the width is the shift. -/
theorem shrui_eq (u : ArithUnit) {x y : BitVec 32} (h : y.toNat < 32) : IntOp.shrui u x y = x >>> y := by
  simp [IntOp.shrui, h]

end Cert.Proof.Word

end
-- ==== Proof.Spec.lean ====
/- What both programs compute, as functions of the arguments at one index: the new feature, the score of a class from its
   random word, and the argmax over the classes. -/
module

public import proofs.«01_k».proof.Proof.Word

@[expose] public section

noncomputable section

namespace Cert.Proof.Spec

open Idealize.ShloMosaic

variable {F : FTy → Type} [FloatOps F]

/-- The number of a float word. -/
abbrev lit (b : BitVec 32) : F .f32 := FloatOps.ofBits .f32 b

/-- The new feature: `c + v · d`. -/
def moved (c v d : F .f32) : F .f32 := FloatOps.addf c (FloatOps.mulf v d)

/-- The log probability of a feature: `log (min 1 (max 0 c) + 1e-8)`. -/
def logit (c : F .f32) : F .f32 :=
  FloatOps.log (FloatOps.addf (FloatOps.minimumf (lit 0x3F800000#32) (FloatOps.maximumf (lit 0x00000000#32) c))
    (lit 0x322BCC77#32))

/-- The uniform variable of a random word: its 23 top bits as the fraction of a number in `[1, 2)`, less one, and at least
    the least positive normal number. -/
def draw (n : BitVec 32) : F .f32 :=
  FloatOps.maximumf (lit 0x00800000#32) (FloatOps.subf (lit ((n >>> 9#32) ||| 0x3F800000#32)) (lit 0x3F800000#32))

/-- The score of a class with the counter word `x`: its log probability `l` less `log (−log u)`. -/
def score (x : BitVec 32) (l : F .f32) : F .f32 :=
  FloatOps.subf l (FloatOps.log (FloatOps.subf (lit 0x00000000#32) (FloatOps.log (draw (Word.noise x)))))

/-- The greatest of `v 0, …, v n` and the first place it stands at, by a running maximum. -/
def run (v : Fin 20 → F .f32) : ℕ → F .f32 × BitVec 32
  | 0 => (v 0, 0#32)
  | n + 1 => (Scalar.select (FloatOps.cmpf .ogt (v (Fin.ofNat 20 (n + 1))) (run v n).1) (v (Fin.ofNat 20 (n + 1))) (run v n).1,
      Scalar.select (FloatOps.cmpf .ogt (v (Fin.ofNat 20 (n + 1))) (run v n).1) (BitVec.ofNat 32 (n + 1)) (run v n).2)

/-- The first class with the greatest score. -/
def pick (v : Fin 20 → F .f32) : BitVec 32 := (run v 19).2

/-- The counter word of class `k` at token `l` of sequence `n`, with the key word 42 added. -/
def counter (n l k : ℕ) : BitVec 32 := BitVec.ofNat 32 (20 * (8192 * n + l) + k) + 42#32

end Cert.Proof.Spec

end
-- ==== Proof.NoiseVal.lean ====
/- The random words of a chunk of the kernel at an index: the specification of one word. -/
module

public import proofs.«01_k».proof.Proof.Chunk
public import proofs.«01_k».proof.Proof.Spec
public import Idealize.ShloMosaic.Lib.Pipeline.Value

@[expose] public section

set_option maxRecDepth 16384

noncomputable section

namespace Cert.Proof.NoiseVal

open Idealize.ShloMosaic Cert.KernelIdeal Cert.KernelIdeal.Gen Cert.Proof.Chunk

/-- The vectors `a` and `b` hold at `y` the two words of `p`. -/
structure Tied (y : S20x8x128.Idx) (a b : I) (p : BitVec 32 × BitVec 32) : Prop where
  fst : a y = p.1
  snd : b y = p.2

/-- The mixing half of a round at an index. -/
theorem turn_apply {r s : BitVec 32} (hr : r.toNat < 32) (hs : s.toNat < 32) (a b : I) (y : S20x8x128.Idx) :
    turn r s a b y = Word.turn r s (a y) (b y) := by
  show (IntOp.shli _ (b y) r ||| IntOp.shrui _ (b y) s) ^^^ a y = _
  rw [Word.shli_eq _ hr, Word.shrui_eq _ hs]
  rfl

/-- A round keeps the tie. -/
theorem Tied.mix {y : S20x8x128.Idx} {a b : I} {p : BitVec 32 × BitVec 32} (h : Tied y a b p) {r s : BitVec 32}
    (hr : r.toNat < 32) (hs : s.toNat < 32) : Tied y (addi a b) (turn r s (addi a b) b) (Word.mix r s p) := by
  have e : addi a b y = p.1 + p.2 := by rw [← h.fst, ← h.snd]; rfl
  exact ⟨e, by rw [turn_apply hr hs, e, h.snd]; rfl⟩

/-- A key injection keeps the tie. -/
theorem Tied.inj {y : S20x8x128.Idx} {a b : I} {p : BitVec 32 × BitVec 32} (h : Tied y a b p) (i k l : BitVec 32) :
    Tied y (addi a (broadcast _ k)) (addi (addi b (broadcast _ l)) (broadcast _ i)) (Word.inj i k l p) :=
  ⟨by show a y + k = p.1 + k; rw [h.fst], by show b y + l + i = p.2 + l + i; rw [h.snd]⟩

/-- The first round, from a first word of zero. -/
theorem Tied.start (x : I) (y : S20x8x128.Idx) : Tied y x (turn 13 19 x x) (Word.mix 13 19 (0#32, x y)) :=
  ⟨by simp [Word.mix], by rw [turn_apply (by decide) (by decide)]; simp [Word.mix]⟩

/-- The random words of a chunk, at an index. -/
theorem noise_apply (x : I) (y : S20x8x128.Idx) : noise x y = Word.noise (x y) := by
  unfold Word.noise Word.rounds
  have h := Tied.start x y
  have h := h.mix (r := 15) (s := 17) (by decide) (by decide)
  have h := h.mix (r := 26) (s := 6) (by decide) (by decide)
  have h := h.mix (r := 6) (s := 26) (by decide) (by decide)
  have h := h.inj 1 42 466689008
  have h := h.mix (r := 17) (s := 15) (by decide) (by decide)
  have h := h.mix (r := 29) (s := 3) (by decide) (by decide)
  have h := h.mix (r := 16) (s := 16) (by decide) (by decide)
  have h := h.mix (r := 24) (s := 8) (by decide) (by decide)
  have h := h.inj 2 466689008 0
  have h := h.mix (r := 13) (s := 19) (by decide) (by decide)
  have h := h.mix (r := 15) (s := 17) (by decide) (by decide)
  have h := h.mix (r := 26) (s := 6) (by decide) (by decide)
  have h := h.mix (r := 6) (s := 26) (by decide) (by decide)
  have h := h.inj 3 0 42
  have h := h.mix (r := 17) (s := 15) (by decide) (by decide)
  have h := h.mix (r := 29) (s := 3) (by decide) (by decide)
  have h := h.mix (r := 16) (s := 16) (by decide) (by decide)
  have h := h.mix (r := 24) (s := 8) (by decide) (by decide)
  have h := h.inj 4 42 466689008
  have h := h.mix (r := 13) (s := 19) (by decide) (by decide)
  have h := h.mix (r := 15) (s := 17) (by decide) (by decide)
  have h := h.mix (r := 26) (s := 6) (by decide) (by decide)
  have h := h.mix (r := 6) (s := 26) (by decide) (by decide)
  have h := h.inj 5 466689008 0
  exact congrArg₂ (· ^^^ ·) h.fst h.snd

end Cert.Proof.NoiseVal

end
-- ==== Proof.Index.lean ====
/- Indices from their coordinates. -/
module

public import Idealize.ShloMosaic.PureOps

@[expose] public section

namespace Cert.Proof.Index

open Idealize.ShloMosaic

/-- An index of rank one from its coordinate. -/
def at1 {n : ℕ} (a : Fin n) : (⟨1, ![n]⟩ : Shape).Idx := Fin.cons (α := fun i => Fin (![n] i)) a fun x => x.elim0

/-- An index of rank two from its coordinates. -/
def at2 {n m : ℕ} (a : Fin n) (b : Fin m) : (⟨2, ![n, m]⟩ : Shape).Idx :=
  Fin.cons (α := fun i => Fin (![n, m] i)) a (Fin.cons (α := fun i : Fin 1 => Fin (![n, m] i.succ)) b fun x => x.elim0)

/-- An index of rank three from its coordinates. -/
def at3 {n m l : ℕ} (a : Fin n) (b : Fin m) (c : Fin l) : (⟨3, ![n, m, l]⟩ : Shape).Idx :=
  Fin.cons (α := fun i => Fin (![n, m, l] i)) a (Fin.cons (α := fun i : Fin 2 => Fin (![n, m, l] i.succ)) b
    (Fin.cons (α := fun i : Fin 1 => Fin (![n, m, l] i.succ.succ)) c fun x => x.elim0))

/-- An index of rank one is the index from its coordinate. -/
theorem eta1 {n : ℕ} (i : (⟨1, ![n]⟩ : Shape).Idx) : i = at1 (n := n) (i 0) := by
  funext a
  match a with
  | ⟨0, _⟩ => rfl

/-- An index of rank two is the index from its coordinates. -/
theorem eta2 {n m : ℕ} (i : (⟨2, ![n, m]⟩ : Shape).Idx) : i = at2 (n := n) (m := m) (i 0) (i 1) := by
  funext a
  match a with
  | ⟨0, _⟩ => rfl
  | ⟨1, _⟩ => rfl

/-- An index of rank three is the index from its coordinates. -/
theorem eta3 {n m l : ℕ} (i : (⟨3, ![n, m, l]⟩ : Shape).Idx) : i = at3 (n := n) (m := m) (l := l) (i 0) (i 1) (i 2) := by
  funext a
  match a with
  | ⟨0, _⟩ => rfl
  | ⟨1, _⟩ => rfl
  | ⟨2, _⟩ => rfl

/-- Every index of rank one is one from a coordinate. -/
theorem ex1 {n : ℕ} (i : (⟨1, ![n]⟩ : Shape).Idx) : ∃ a : Fin n, i = at1 a := ⟨_, eta1 i⟩

/-- Every index of rank two is one from coordinates. -/
theorem ex2 {n m : ℕ} (i : (⟨2, ![n, m]⟩ : Shape).Idx) : ∃ (a : Fin n) (b : Fin m), i = at2 a b := ⟨_, _, eta2 i⟩

/-- Every index of rank three is one from coordinates. -/
theorem ex3 {n m l : ℕ} (i : (⟨3, ![n, m, l]⟩ : Shape).Idx) : ∃ (a : Fin n) (b : Fin m) (c : Fin l), i = at3 a b c :=
  ⟨_, _, _, eta3 i⟩

/-- The place of an index of rank two in row-major order. -/
theorem place2 {n m : ℕ} (a : Fin n) (b : Fin m) : ((⟨2, ![n, m]⟩ : Shape).rowMajor (at2 a b)).val = a.val * m + b.val :=
  Shape.rowMajor_val_two _

/-- The place of an index of rank three in row-major order. -/
theorem place3 {n m l : ℕ} (a : Fin n) (b : Fin m) (c : Fin l) :
    ((⟨3, ![n, m, l]⟩ : Shape).rowMajor (at3 a b c)).val = (a.val * m + b.val) * l + c.val :=
  Shape.rowMajor_val_three _

end Cert.Proof.Index
-- ==== Proof.BestVal.lean ====
/- The running argmax of a chunk of the kernel at an index: the specification of one row of scores. -/
module

public import proofs.«01_k».proof.Proof.Chunk
public import proofs.«01_k».proof.Proof.Spec
public import proofs.«01_k».proof.Proof.Index
public import Idealize.ShloMosaic.Lib.Pipeline.Value

@[expose] public section

set_option maxRecDepth 16384

noncomputable section

namespace Cert.Proof.BestVal

open Idealize.ShloMosaic Cert.KernelIdeal Cert.KernelIdeal.Gen Cert.Proof.Chunk Cert.Proof.Index

variable {F : FTy → Type} [FloatOps F]

/-- The scores over the classes at a row and lane. -/
def over (v : FVec F S20x8x128 .f32) (y : S8x128.Idx) (k : Fin 20) : F .f32 := v (at3 (n := 20) (m := 8) (l := 128) k (y 0) (y 1))

/-- The scores of class `k`, at an index. -/
theorem row_apply (v : FVec F S20x8x128 .f32) (k : Fin 20) (h : S20x8x128.Slices ![k.val, 0, 0] S1x8x128) (y : S8x128.Idx) :
    row v k.val h y = over v y k := by
  refine (shapeCast_dropUnit_apply ![8, 128] _ _ y).trans ?_
  refine extractStridedSlice_apply _ v h _ _ fun a => ?_
  match a with
  | ⟨0, _⟩ => rfl
  | ⟨1, _⟩ => exact (Nat.zero_add _).symm
  | ⟨2, _⟩ => exact (Nat.zero_add _).symm

/-- The vectors `s` and `i` hold at `y` the running maximum and its place after class `n`. -/
structure Best (v : FVec F S20x8x128 .f32) (y : S8x128.Idx) (n : ℕ) (s : FVec F S8x128 .f32) (i : IVec S8x128 32) : Prop where
  top : s y = (Spec.run (over v y) n).1
  place : i y = (Spec.run (over v y) n).2

/-- The first class. -/
theorem Best.start (v : FVec F S20x8x128 .f32) (y : S8x128.Idx) (h : S20x8x128.Slices ![0, 0, 0] S1x8x128) :
    Best v y 0 (row v 0 h) (broadcast _ 0#32) :=
  ⟨row_apply v 0 h y, rfl⟩

/-- The next class. -/
theorem Best.next {v : FVec F S20x8x128 .f32} {y : S8x128.Idx} {n : ℕ} {s : FVec F S8x128 .f32} {i : IVec S8x128 32}
    (b : Best v y n s i) (k : ℕ) (hk : k = n + 1) (hn : k < 20) (h : S20x8x128.Slices ![k, 0, 0] S1x8x128) :
    Best v y k (select (cmpf .ogt (row v k h) s) (row v k h) s)
      (select (cmpf .ogt (row v k h) s) (broadcast _ (BitVec.ofNat 32 k)) i) := by
  subst hk
  have e : row v (n + 1) h y = over v y (Fin.ofNat 20 (n + 1)) :=
    (row_apply v ⟨n + 1, hn⟩ h y).trans (congrArg (over v y) (Fin.ext (Nat.mod_eq_of_lt hn).symm))
  constructor
  · show Scalar.select (FloatOps.cmpf .ogt (row v (n + 1) h y) (s y)) (row v (n + 1) h y) (s y) = _
    rw [e, b.top]; rfl
  · show Scalar.select (FloatOps.cmpf .ogt (row v (n + 1) h y) (s y)) (BitVec.ofNat 32 (n + 1)) (i y) = _
    rw [e, b.top, b.place]; rfl

/-- The argmax of a chunk, at an index. -/
theorem best_apply (v : FVec F S20x8x128 .f32) (y : S8x128.Idx) : best v y = Spec.pick (over v y) := by
  have h := Best.start v y slices_S20x8x128_o0_0_0_S1x8x128
  have h := h.next 1 rfl (by decide) slices_S20x8x128_o1_0_0_S1x8x128
  have h := h.next 2 rfl (by decide) slices_S20x8x128_o2_0_0_S1x8x128
  have h := h.next 3 rfl (by decide) slices_S20x8x128_o3_0_0_S1x8x128
  have h := h.next 4 rfl (by decide) slices_S20x8x128_o4_0_0_S1x8x128
  have h := h.next 5 rfl (by decide) slices_S20x8x128_o5_0_0_S1x8x128
  have h := h.next 6 rfl (by decide) slices_S20x8x128_o6_0_0_S1x8x128
  have h := h.next 7 rfl (by decide) slices_S20x8x128_o7_0_0_S1x8x128
  have h := h.next 8 rfl (by decide) slices_S20x8x128_o8_0_0_S1x8x128
  have h := h.next 9 rfl (by decide) slices_S20x8x128_o9_0_0_S1x8x128
  have h := h.next 10 rfl (by decide) slices_S20x8x128_o10_0_0_S1x8x128
  have h := h.next 11 rfl (by decide) slices_S20x8x128_o11_0_0_S1x8x128
  have h := h.next 12 rfl (by decide) slices_S20x8x128_o12_0_0_S1x8x128
  have h := h.next 13 rfl (by decide) slices_S20x8x128_o13_0_0_S1x8x128
  have h := h.next 14 rfl (by decide) slices_S20x8x128_o14_0_0_S1x8x128
  have h := h.next 15 rfl (by decide) slices_S20x8x128_o15_0_0_S1x8x128
  have h := h.next 16 rfl (by decide) slices_S20x8x128_o16_0_0_S1x8x128
  have h := h.next 17 rfl (by decide) slices_S20x8x128_o17_0_0_S1x8x128
  have h := h.next 18 rfl (by decide) slices_S20x8x128_o18_0_0_S1x8x128
  have h := h.next 19 rfl (by decide) slices_S20x8x128_o19_0_0_S1x8x128
  exact h.place

end Cert.Proof.BestVal

end
-- ==== Proof.ChunkVal.lean ====
/- One chunk of the kernel at an index: each of its functions is, at class `k`, row `r` and lane `l`, the specification
   of the values there. -/
module

public import proofs.«01_k».proof.Proof.Chunk
public import proofs.«01_k».proof.Proof.NoiseVal
public import proofs.«01_k».proof.Proof.BestVal
public import Idealize.ShloMosaic.Lib.Pipeline.Value

@[expose] public section

set_option maxRecDepth 16384

noncomputable section

namespace Cert.Proof.ChunkVal

open Idealize.ShloMosaic Cert.KernelIdeal Cert.KernelIdeal.Gen Cert.Proof.Chunk Cert.Proof.BestVal Cert.Proof.Index

variable {F : FTy → Type} [FloatOps F]

/-- The counter words of the first chunk, at an index, as the kernel adds them up. -/
theorem count_zero (i : grid0.Coords) (y : S20x8x128.Idx) :
    count i 0 y = ((BitVec.ofNat 32 (i 0).val * 8#32 + BitVec.ofNat 32 (y 1).val) * 8192#32
        + (BitVec.ofNat 32 (i 1).val * 2048#32 + BitVec.ofNat 32 (y 2).val)) * 20#32 + (BitVec.ofNat 32 (y 0).val + 42#32) := by
  rw [← iota_single_apply .tc S20x8x128 32 0 iota_S20x8x128_d0_w32 y, ← iota_single_apply .tc S20x8x128 32 1 iota_S20x8x128_d1_w32 y,
    ← iota_single_apply .tc S20x8x128 32 2 iota_S20x8x128_d2_w32 y]
  rfl

/-- The counter words of a chunk, at an index. -/
theorem count_apply (i : grid0.Coords) (j : ℕ) (y : S20x8x128.Idx) :
    count i j y = Spec.counter (8 * (i 0).val + (y 1).val) (2048 * (i 1).val + (128 * j + (y 2).val)) (y 0).val := by
  induction j with
  | zero =>
    rw [count_zero]
    generalize (i 0).val = a, (i 1).val = b, (y 0).val = c, (y 1).val = d, (y 2).val = e
    unfold Spec.counter
    apply BitVec.eq_of_toNat_eq
    simp only [BitVec.toNat_add, BitVec.toNat_mul, BitVec.toNat_ofNat]
    omega
  | succ j ih =>
    show count i j y + 2560#32 = _
    rw [ih]
    generalize (i 0).val = a, (i 1).val = b, (y 0).val = c, (y 1).val = d, (y 2).val = e
    unfold Spec.counter
    apply BitVec.eq_of_toNat_eq
    simp only [BitVec.toNat_add, BitVec.toNat_ofNat]
    omega

/-- The scores of a chunk, at an index. -/
theorem score_apply (x : I) (lp : FVec F S20x8x128 .f32) (y : S20x8x128.Idx) :
    score x lp y = Spec.score (x y) (lp y) := by
  unfold Spec.score Spec.draw score
  rw [← NoiseVal.noise_apply]
  generalize noise x = n
  rfl

/-- The time steps of a block's rows, spread over a chunk, at an index. -/
theorem pay4_apply (dt : Vec F S8x1 .f32) (h : S1x8x1.Broadcasts S20x8x128) (y : S20x8x128.Idx) :
    broadcastTo S20x8x128 (k0_pay4 dt) h y = dt (at2 (n := 8) (m := 1) (y 1) (0 : Fin 1)) := by
  refine (broadcastTo_apply (k0_pay4 dt) h y (at3 (n := 1) (m := 8) (l := 1) (0 : Fin 1) (y 1) (0 : Fin 1)) fun a => ?_).trans ?_
  · match a with
    | ⟨0, _⟩ => rfl
    | ⟨1, _⟩ => rfl
    | ⟨2, _⟩ => rfl
  · unfold k0_pay4
    rw [shapeCast_self]
    refine (shapeCast_addUnit_apply ![8, 1] dt _ _).trans (congrArg dt ?_)
    funext a
    match a with
    | ⟨0, _⟩ => rfl
    | ⟨1, _⟩ => rfl

/-- The new features of a chunk, at an index. -/
theorem moved_apply (dt : Vec F S8x1 .f32) (ct vc : Vec F S20x8x128 .f32) (y : S20x8x128.Idx) :
    moved dt ct vc y = Spec.moved (ct y) (vc y) (dt (at2 (n := 8) (m := 1) (y 1) (0 : Fin 1))) := by
  rw [← pay4_apply dt broadcasts_S1x8x1_S20x8x128 y]
  unfold moved k0_pay7 k0_pay6
  rw [shapeCast_self, shapeCast_self]
  rfl

/-- The log probabilities of a chunk, at an index. -/
theorem logits_apply (dt : Vec F S8x1 .f32) (ct vc : Vec F S20x8x128 .f32) (y : S20x8x128.Idx) :
    logits dt ct vc y = Spec.logit (moved dt ct vc y) := rfl

/-- The tokens of a chunk, at an index. -/
theorem tok_apply (v : FVec F S20x8x128 .f32) (mask xt : Vec F S8x128 .i32) (y : S8x128.Idx) :
    tok v mask xt y = Scalar.select (IntOp.cmpi .ne (mask y) 0#32) (Spec.pick (over v y)) (xt y) := by
  rw [← best_apply]
  unfold tok
  generalize best v = b
  rw [shapeCast_self]
  rfl

/-- The mask of a chunk, spread over the classes, at an index. -/
theorem mask_apply (m : IVec S1x8x128 1) (h : S1x8x128.Broadcasts S20x8x128) (y : S20x8x128.Idx) :
    broadcastTo S20x8x128 m h y = m (at3 (n := 1) (m := 8) (l := 128) (0 : Fin 1) (y 1) (y 2)) := by
  refine broadcastTo_apply m h y _ fun a => ?_
  match a with
  | ⟨0, _⟩ => rfl
  | ⟨1, _⟩ => rfl
  | ⟨2, _⟩ => rfl

/-- The features of a chunk, at an index. -/
theorem feat_apply (dt : Vec F S8x1 .f32) (ct vc : Vec F S20x8x128 .f32) (mask : Vec F S8x128 .i32)
    (y : S20x8x128.Idx) : feat dt ct vc mask y = Scalar.select
      (IntOp.cmpi .ne (mask (at2 (n := 8) (m := 128) (y 1) (y 2))) 0#32) (moved dt ct vc y) (ct y) := by
  have e : feat dt ct vc mask y = Scalar.select (broadcastTo S20x8x128 (cmpi .ne (shapeCast S1x8x128 mask
      shapeCasts_S8x128_S1x8x128) (broadcast S1x8x128 0#32)) broadcasts_S1x8x128_S20x8x128 y) (moved dt ct vc y) (ct y) := by
    unfold feat k0_pay106 k0_pay104 k0_pay6
    rw [shapeCast_self, shapeCast_self, shapeCast_self]
    rfl
  rw [e, mask_apply]
  show Scalar.select (IntOp.cmpi .ne (shapeCast S1x8x128 mask shapeCasts_S8x128_S1x8x128 _) 0#32) _ _ = _
  rw [shapeCast_addUnit_apply ![8, 128] mask]
  congr 3

end Cert.Proof.ChunkVal

end
-- ==== Proof.Block.lean ====
/- The two blocks that one grid point of the kernel writes, at an index: the specification of the point's input blocks. The
   sixteen chunks are sixteen instances of one lemma. -/
module

public import proofs.«01_k».proof.Proof.ChunkVal

@[expose] public section

set_option maxRecDepth 16384

noncomputable section

namespace Cert.Proof.Block

open Idealize.ShloMosaic Cert.KernelIdeal Cert.KernelIdeal.Gen Cert.Proof.Chunk Cert.Proof.BestVal Cert.Proof.Index

variable {F : FTy → Type} [FloatOps F]
variable (i : grid0.Coords) (x0 : Vec F S8x128 .f32) (x1 x2 : Vec F S20x8x2048 .f32) (x3 x4 : Vec F S8x2048 .i32)

/-- The new feature of class `k`, row `r`, lane `l` of a block. -/
def new (k : Fin 20) (r : Fin 8) (l : Fin 2048) : F .f32 :=
  Spec.moved (x1 (at3 k r l)) (x2 (at3 k r l)) (x0 (at2 (n := 8) (m := 128) r 0))

/-- The tokens of a block. -/
def tokens (y : S8x2048.Idx) : BitVec 32 :=
  Scalar.select (IntOp.cmpi .ne (x4 y) 0#32)
    (Spec.pick fun k => Spec.score (Spec.counter (8 * (i 0).val + (y 0).val) (2048 * (i 1).val + (y 1).val) k.val)
      (Spec.logit (new x0 x1 x2 k (y 0) (y 1)))) (x3 y)

/-- The features of a block. -/
def features (y : S20x8x2048.Idx) : F .f32 :=
  Scalar.select (IntOp.cmpi .ne (x4 (at2 (n := 8) (m := 2048) (y 1) (y 2))) 0#32) (new x0 x1 x2 (y 0) (y 1) (y 2)) (x1 y)

/-- The new features of chunk `j`, at an index. -/
theorem moved_piece (j : ℕ) (h3 : ∀ a, ![0, 0, 128 * j] a + S20x8x128.size a ≤ S20x8x2048.size a) (k : Fin 20) (r : Fin 8)
    (l : Fin 128) (hl : 128 * j + l.val < 2048) :
    moved (View.ld x0 r0_0) (View.ld x1 (Rect.unit (s := S20x8x2048) ![0, 0, 128 * j] S20x8x128.size h3))
        (View.ld x2 (Rect.unit (s := S20x8x2048) ![0, 0, 128 * j] S20x8x128.size h3)) (at3 k r l)
      = new x0 x1 x2 k r ⟨128 * j + l.val, hl⟩ := by
  have e : (Rect.unit (s := S20x8x2048) ![0, 0, 128 * j] S20x8x128.size h3).idx (at3 k r l)
      = at3 k r ⟨128 * j + l.val, hl⟩ := by
    funext a
    refine Fin.ext ?_
    match a with
    | ⟨0, _⟩ => show 0 + 1 * k.val = k.val; omega
    | ⟨1, _⟩ => show 0 + 1 * r.val = r.val; omega
    | ⟨2, _⟩ => show 128 * j + 1 * l.val = 128 * j + l.val; omega
  have e0 : r0_0.idx (at2 (n := 8) (m := 1) r 0) = at2 (n := 8) (m := 128) r 0 := by
    funext a
    refine Fin.ext ?_
    match a with
    | ⟨0, _⟩ => show 0 + 1 * r.val = r.val; omega
    | ⟨1, _⟩ => rfl
  refine (ChunkVal.moved_apply _ _ _ _).trans ?_
  unfold new
  rw [← e, ← e0]
  rfl

/-- A lane of a chunk is a lane of the block. -/
theorem lane_lt {j : ℕ} (h2 : ∀ a, ![0, 128 * j] a + S8x128.size a ≤ S8x2048.size a) (l : Fin 128) : 128 * j + l.val < 2048 := by
  have h : 128 * j + 128 ≤ 2048 := h2 1
  omega

/-- A chunk's index in the block. -/
theorem idx2 {j : ℕ} (h2 : ∀ a, ![0, 128 * j] a + S8x128.size a ≤ S8x2048.size a) (r : Fin 8) (l : Fin 128) :
    (Rect.unit (s := S8x2048) ![0, 128 * j] S8x128.size h2).idx (at2 r l) = at2 r ⟨128 * j + l.val, lane_lt h2 l⟩ := by
  funext a
  refine Fin.ext ?_
  match a with
  | ⟨0, _⟩ => show 0 + 1 * r.val = r.val; omega
  | ⟨1, _⟩ => show 128 * j + 1 * l.val = 128 * j + l.val; omega

/-- A chunk's index in the block of features. -/
theorem idx3 {j : ℕ} (h2 : ∀ a, ![0, 128 * j] a + S8x128.size a ≤ S8x2048.size a)
    (h3 : ∀ a, ![0, 0, 128 * j] a + S20x8x128.size a ≤ S20x8x2048.size a) (k : Fin 20) (r : Fin 8) (l : Fin 128) :
    (Rect.unit (s := S20x8x2048) ![0, 0, 128 * j] S20x8x128.size h3).idx (at3 k r l)
      = at3 k r ⟨128 * j + l.val, lane_lt h2 l⟩ := by
  funext a
  refine Fin.ext ?_
  match a with
  | ⟨0, _⟩ => show 0 + 1 * k.val = k.val; omega
  | ⟨1, _⟩ => show 0 + 1 * r.val = r.val; omega
  | ⟨2, _⟩ => show 128 * j + 1 * l.val = 128 * j + l.val; omega

/-- The tokens of chunk `j` are the block's. -/
theorem tok_piece (j : ℕ) (h2 : ∀ a, ![0, 128 * j] a + S8x128.size a ≤ S8x2048.size a)
    (h3 : ∀ a, ![0, 0, 128 * j] a + S20x8x128.size a ≤ S20x8x2048.size a) (x : S8x128.Idx) :
    tok (score (count i j) (logits (View.ld x0 r0_0) (View.ld x1 (Rect.unit (s := S20x8x2048) ![0, 0, 128 * j] S20x8x128.size h3))
        (View.ld x2 (Rect.unit (s := S20x8x2048) ![0, 0, 128 * j] S20x8x128.size h3))))
      (View.ld x4 (Rect.unit (s := S8x2048) ![0, 128 * j] S8x128.size h2))
      (View.ld x3 (Rect.unit (s := S8x2048) ![0, 128 * j] S8x128.size h2)) x
      = tokens i x0 x1 x2 x3 x4 ((Rect.unit (s := S8x2048) ![0, 128 * j] S8x128.size h2).idx x) := by
  obtain ⟨r, l, rfl⟩ := ex2 (n := 8) (m := 128) x
  refine (ChunkVal.tok_apply _ _ _ _).trans ?_
  show Scalar.select (IntOp.cmpi .ne (x4 ((Rect.unit (s := S8x2048) ![0, 128 * j] S8x128.size h2).idx (at2 r l))) 0#32) _
    (x3 ((Rect.unit (s := S8x2048) ![0, 128 * j] S8x128.size h2).idx (at2 r l))) = _
  rw [idx2 h2]
  unfold tokens
  refine congrArg (fun w => Scalar.select _ w _) (congrArg Spec.pick (funext fun k => ?_))
  refine (ChunkVal.score_apply _ _ _).trans (congrArg₂ Spec.score (ChunkVal.count_apply i j _) ?_)
  exact (ChunkVal.logits_apply _ _ _ _).trans (congrArg Spec.logit (moved_piece x0 x1 x2 j h3 k r l (lane_lt h2 l)))

/-- The features of chunk `j` are the block's. -/
theorem feat_piece (j : ℕ) (h2 : ∀ a, ![0, 128 * j] a + S8x128.size a ≤ S8x2048.size a)
    (h3 : ∀ a, ![0, 0, 128 * j] a + S20x8x128.size a ≤ S20x8x2048.size a) (x : S20x8x128.Idx) :
    feat (View.ld x0 r0_0) (View.ld x1 (Rect.unit (s := S20x8x2048) ![0, 0, 128 * j] S20x8x128.size h3))
        (View.ld x2 (Rect.unit (s := S20x8x2048) ![0, 0, 128 * j] S20x8x128.size h3))
        (View.ld x4 (Rect.unit (s := S8x2048) ![0, 128 * j] S8x128.size h2)) x
      = features x0 x1 x2 x4 ((Rect.unit (s := S20x8x2048) ![0, 0, 128 * j] S20x8x128.size h3).idx x) := by
  obtain ⟨k, r, l, rfl⟩ := ex3 (n := 20) (m := 8) (l := 128) x
  refine (ChunkVal.feat_apply _ _ _ _ _).trans ?_
  rw [moved_piece x0 x1 x2 j h3 k r l (lane_lt h2 l)]
  show Scalar.select (IntOp.cmpi .ne (x4 ((Rect.unit (s := S8x2048) ![0, 128 * j] S8x128.size h2).idx (at2 r l))) 0#32) _
    (x1 ((Rect.unit (s := S20x8x2048) ![0, 0, 128 * j] S20x8x128.size h3).idx (at3 k r l))) = _
  rw [idx2 h2, idx3 h2 h3]
  rfl

/-- The block of tokens is the specification's. -/
theorem tokens_apply (y : S8x2048.Idx) : out0_5 i x0 x1 x2 x3 x4 y = tokens i x0 x1 x2 x3 x4 y := by
  rw [tokens_eq]
  refine View.canon_apply_of_pieces (tokens i x0 x1 x2 x3 x4) _ ?_ y (cover0_5 (F := F) _ _ _ _ _ _ _ _ _ _ _ _ _ _ _ _ y)
  refine List.forall_mem_cons.2 ⟨tok_piece i x0 x1 x2 x3 x4 15 _ _, ?_⟩
  refine List.forall_mem_cons.2 ⟨tok_piece i x0 x1 x2 x3 x4 14 _ _, ?_⟩
  refine List.forall_mem_cons.2 ⟨tok_piece i x0 x1 x2 x3 x4 13 _ _, ?_⟩
  refine List.forall_mem_cons.2 ⟨tok_piece i x0 x1 x2 x3 x4 12 _ _, ?_⟩
  refine List.forall_mem_cons.2 ⟨tok_piece i x0 x1 x2 x3 x4 11 _ _, ?_⟩
  refine List.forall_mem_cons.2 ⟨tok_piece i x0 x1 x2 x3 x4 10 _ _, ?_⟩
  refine List.forall_mem_cons.2 ⟨tok_piece i x0 x1 x2 x3 x4 9 _ _, ?_⟩
  refine List.forall_mem_cons.2 ⟨tok_piece i x0 x1 x2 x3 x4 8 _ _, ?_⟩
  refine List.forall_mem_cons.2 ⟨tok_piece i x0 x1 x2 x3 x4 7 _ _, ?_⟩
  refine List.forall_mem_cons.2 ⟨tok_piece i x0 x1 x2 x3 x4 6 _ _, ?_⟩
  refine List.forall_mem_cons.2 ⟨tok_piece i x0 x1 x2 x3 x4 5 _ _, ?_⟩
  refine List.forall_mem_cons.2 ⟨tok_piece i x0 x1 x2 x3 x4 4 _ _, ?_⟩
  refine List.forall_mem_cons.2 ⟨tok_piece i x0 x1 x2 x3 x4 3 _ _, ?_⟩
  refine List.forall_mem_cons.2 ⟨tok_piece i x0 x1 x2 x3 x4 2 _ _, ?_⟩
  refine List.forall_mem_cons.2 ⟨tok_piece i x0 x1 x2 x3 x4 1 _ _, ?_⟩
  exact List.forall_mem_cons.2 ⟨tok_piece i x0 x1 x2 x3 x4 0 _ _, nofun⟩

/-- The block of features is the specification's. -/
theorem features_apply (y : S20x8x2048.Idx) : out0_6 i x0 x1 x2 x3 x4 y = features x0 x1 x2 x4 y := by
  rw [features_eq]
  refine View.canon_apply_of_pieces (features x0 x1 x2 x4) _ ?_ y (cover0_6 (F := F) _ _ _ _ _ _ _ _ _ _ _ _ _ _ _ _ y)
  refine List.forall_mem_cons.2 ⟨feat_piece x0 x1 x2 x4 15 inb_S8x2048_S8x128_0_1920 _, ?_⟩
  refine List.forall_mem_cons.2 ⟨feat_piece x0 x1 x2 x4 14 inb_S8x2048_S8x128_0_1792 _, ?_⟩
  refine List.forall_mem_cons.2 ⟨feat_piece x0 x1 x2 x4 13 inb_S8x2048_S8x128_0_1664 _, ?_⟩
  refine List.forall_mem_cons.2 ⟨feat_piece x0 x1 x2 x4 12 inb_S8x2048_S8x128_0_1536 _, ?_⟩
  refine List.forall_mem_cons.2 ⟨feat_piece x0 x1 x2 x4 11 inb_S8x2048_S8x128_0_1408 _, ?_⟩
  refine List.forall_mem_cons.2 ⟨feat_piece x0 x1 x2 x4 10 inb_S8x2048_S8x128_0_1280 _, ?_⟩
  refine List.forall_mem_cons.2 ⟨feat_piece x0 x1 x2 x4 9 inb_S8x2048_S8x128_0_1152 _, ?_⟩
  refine List.forall_mem_cons.2 ⟨feat_piece x0 x1 x2 x4 8 inb_S8x2048_S8x128_0_1024 _, ?_⟩
  refine List.forall_mem_cons.2 ⟨feat_piece x0 x1 x2 x4 7 inb_S8x2048_S8x128_0_896 _, ?_⟩
  refine List.forall_mem_cons.2 ⟨feat_piece x0 x1 x2 x4 6 inb_S8x2048_S8x128_0_768 _, ?_⟩
  refine List.forall_mem_cons.2 ⟨feat_piece x0 x1 x2 x4 5 inb_S8x2048_S8x128_0_640 _, ?_⟩
  refine List.forall_mem_cons.2 ⟨feat_piece x0 x1 x2 x4 4 inb_S8x2048_S8x128_0_512 _, ?_⟩
  refine List.forall_mem_cons.2 ⟨feat_piece x0 x1 x2 x4 3 inb_S8x2048_S8x128_0_384 _, ?_⟩
  refine List.forall_mem_cons.2 ⟨feat_piece x0 x1 x2 x4 2 inb_S8x2048_S8x128_0_256 _, ?_⟩
  refine List.forall_mem_cons.2 ⟨feat_piece x0 x1 x2 x4 1 inb_S8x2048_S8x128_0_128 _, ?_⟩
  exact List.forall_mem_cons.2 ⟨feat_piece x0 x1 x2 x4 0 inb_S8x2048_S8x128_0_0 _, nofun⟩

end Cert.Proof.Block

end
-- ==== Proof.Arrays.lean ====
/- The kernel's two result arrays from its blocks: what the host operations put before the region, each window's block at an
   index of the arguments, and the arrays that the grid's blocks fill. -/
module

public import proofs.«01_k».proof.Proof.Block
public import Idealize.ShloMosaic.Lib.Pipeline.ValueKit
public import Idealize.ShloMosaic.Lib.Claim

@[expose] public section

set_option maxRecDepth 16384

noncomputable section

namespace Cert.Proof.Arrays

open Idealize.ShloMosaic Idealize.ShloMosaic.TcCoe Idealize.SL.Sem Cert.KernelIdeal Cert.KernelIdeal.Gen Cert.Proof.Index

variable {F : FTy → Type} [FloatOps F]
variable (m : (ℓ : Loc nD τ sig) → Buf (Elt F) ℓ) (c : Dev nD)

/-- The five arguments on device `c`. -/
abbrev xt : Vec F S128x8192 .i32 := m ((c.tc : Thread nD τ).loc main_arg0)
abbrev ct : Vec F S128x8192x20 .f32 := m ((c.tc : Thread nD τ).loc main_arg1)
abbrev vc : Vec F S128x8192x20 .f32 := m ((c.tc : Thread nD τ).loc main_arg2)
abbrev dt : Vec F S128 .f32 := m ((c.tc : Thread nD τ).loc main_arg3)
abbrev mask : Vec F S128x8192 .i1 := m ((c.tc : Thread nD τ).loc main_arg4)

/-! ## The operands, as the host operations leave them -/

/-- The transposed features. -/
theorem v0_eq : V m c main_v0 = transpose S20x128x8192 [2, 0, 1] (ct m c) transposes_S128x8192x20_S20x128x8192_2_0_1 := by
  show StableHlo.after hostOps0 (fun b => m (c, b)) (Proc.devRef .tc _) = _
  unfold hostOps0
  after_results

/-- The transposed velocities. -/
theorem v1_eq : V m c main_v1 = transpose S20x128x8192 [2, 0, 1] (vc m c) transposes_S128x8192x20_S20x128x8192_2_0_1 := by
  show StableHlo.after hostOps0 (fun b => m (c, b)) (Proc.devRef .tc _) = _
  unfold hostOps0
  after_results

/-- The mask as words. -/
theorem v2_eq : V m c main_v2 = extui 32 (mask m c) natLt_1_32 := by
  show StableHlo.after hostOps0 (fun b => m (c, b)) (Proc.devRef .tc _) = _
  unfold hostOps0
  after_results

/-- The times, along the lanes. -/
theorem v4_eq : V m c main_v4 = broadcastInDim S128x128 ![0, 1] bcast_S128x1_S128x128_0_1
    (broadcastInDim S128x1 ![0] bcast_S128_S128x1_0 (dt m c)) := by
  show StableHlo.after hostOps0 (fun b => m (c, b)) (Proc.devRef .tc _) = _
  unfold hostOps0
  after_results

/-- The features with the classes outermost, at an index. -/
theorem v0_apply (k : Fin 20) (n : Fin 128) (l : Fin 8192) :
    (V m c main_v0 : Vec F S20x128x8192 .f32) (at3 k n l) = ct m c (at3 n l k) :=
  (congrFun (v0_eq m c) (at3 k n l)).trans (transpose_apply (s := S128x8192x20) (t := S20x128x8192) _ _ _ _ (at3 n l k) fun a => by
    match a with | ⟨0, _⟩ => rfl | ⟨1, _⟩ => rfl | ⟨2, _⟩ => rfl)

/-- The velocities with the classes outermost, at an index. -/
theorem v1_apply (k : Fin 20) (n : Fin 128) (l : Fin 8192) :
    (V m c main_v1 : Vec F S20x128x8192 .f32) (at3 k n l) = vc m c (at3 n l k) :=
  (congrFun (v1_eq m c) (at3 k n l)).trans (transpose_apply (s := S128x8192x20) (t := S20x128x8192) _ _ _ _ (at3 n l k) fun a => by
    match a with | ⟨0, _⟩ => rfl | ⟨1, _⟩ => rfl | ⟨2, _⟩ => rfl)

/-- The mask as words, at an index. -/
theorem v2_apply (n : Fin 128) (l : Fin 8192) :
    (V m c main_v2 : Vec F S128x8192 .i32) (at2 n l) = (mask m c (at2 n l)).setWidth 32 :=
  (congrFun (v2_eq m c) (at2 n l)).trans rfl

/-- The times along the lanes, at an index. -/
theorem v4_apply (n : Fin 128) (l : Fin 128) :
    (V m c main_v4 : Vec F S128x128 .f32) (at2 n l) = dt m c (at1 n) :=
  (congrFun (v4_eq m c) (at2 n l)).trans ((broadcastInDim_apply (s := S128x1) (t := S128x128) _ _ _ _ (at2 (n := 128) (m := 1) n (0 : Fin 1)) fun a => by
    match a with | ⟨0, _⟩ => rfl | ⟨1, _⟩ => rfl).trans
    (broadcastInDim_apply (s := S128) (t := S128x1) _ _ _ _ (at1 n) fun a => by match a with | ⟨0, _⟩ => rfl))

/-- A widened truth value is nonzero where the value is true. -/
theorem wide_ne (b : BitVec 1) : IntOp.cmpi .ne (b.setWidth 32) 0#32 = b := by
  revert b; decide

/-! ## The windows' blocks, at coordinates -/

theorem idx0 : ∀ t : Fin cfg0.N, win0_0.index t = ![(grid0.coords t 0).val, 0] := (by decide +kernel : ∀ t : Fin grid0.N, _)
theorem idx1 : ∀ t : Fin cfg0.N, win0_1.index t = ![0, (grid0.coords t 0).val, (grid0.coords t 1).val] :=
  (by decide +kernel : ∀ t : Fin grid0.N, _)
theorem idx2 : ∀ t : Fin cfg0.N, win0_2.index t = ![0, (grid0.coords t 0).val, (grid0.coords t 1).val] :=
  (by decide +kernel : ∀ t : Fin grid0.N, _)
theorem idx3 : ∀ t : Fin cfg0.N, win0_3.index t = ![(grid0.coords t 0).val, (grid0.coords t 1).val] :=
  (by decide +kernel : ∀ t : Fin grid0.N, _)
theorem idx4 : ∀ t : Fin cfg0.N, win0_4.index t = ![(grid0.coords t 0).val, (grid0.coords t 1).val] :=
  (by decide +kernel : ∀ t : Fin grid0.N, _)
theorem idx5 : ∀ t : Fin cfg0.N, win0_5.index t = ![(grid0.coords t 0).val, (grid0.coords t 1).val] :=
  (by decide +kernel : ∀ t : Fin grid0.N, _)
theorem idx6 : ∀ t : Fin cfg0.N, win0_6.index t = ![0, (grid0.coords t 0).val, (grid0.coords t 1).val] :=
  (by decide +kernel : ∀ t : Fin grid0.N, _)

theorem at2_0 {n m : ℕ} (a : Fin n) (b : Fin m) : ((at2 a b 0 : Fin _) : ℕ) = a.val := rfl
theorem at2_1 {n m : ℕ} (a : Fin n) (b : Fin m) : ((at2 a b 1 : Fin _) : ℕ) = b.val := rfl
theorem at3_0 {n m l : ℕ} (a : Fin n) (b : Fin m) (c : Fin l) : ((at3 a b c 0 : Fin _) : ℕ) = a.val := rfl
theorem at3_1 {n m l : ℕ} (a : Fin n) (b : Fin m) (c : Fin l) : ((at3 a b c 1 : Fin _) : ℕ) = b.val := rfl
theorem at3_2 {n m l : ℕ} (a : Fin n) (b : Fin m) (c : Fin l) : ((at3 a b c 2 : Fin _) : ℕ) = c.val := rfl

variable (t : Fin cfg0.N)

/-- The batch row that row `r` of point `t`'s blocks is. -/
def row (r : Fin 8) : Fin 128 :=
  ⟨8 * (grid0.coords t 0).val + r.val, by have h : (grid0.coords t 0).val < 16 := (grid0.coords t 0).isLt; omega⟩

/-- The position that lane `l` of point `t`'s blocks is. -/
def lane (l : Fin 2048) : Fin 8192 :=
  ⟨2048 * (grid0.coords t 1).val + l.val, by have h : (grid0.coords t 1).val < 4 := (grid0.coords t 1).isLt; omega⟩

theorem emb0 (r : Fin 8) (l : Fin 128) : (win0_0.blk t).view.emb (at2 r l) = at2 (n := 128) (m := 128) (row t r) l := by
  blk_ext [idx0 t, row, at2_0, at2_1]
theorem emb1 (k : Fin 20) (r : Fin 8) (l : Fin 2048) :
    (win0_1.blk t).view.emb (at3 k r l) = at3 (n := 20) (m := 128) (l := 8192) k (row t r) (lane t l) := by
  blk_ext [idx1 t, row, lane, at3_0, at3_1, at3_2]
theorem emb2 (k : Fin 20) (r : Fin 8) (l : Fin 2048) :
    (win0_2.blk t).view.emb (at3 k r l) = at3 (n := 20) (m := 128) (l := 8192) k (row t r) (lane t l) := by
  blk_ext [idx2 t, row, lane, at3_0, at3_1, at3_2]
theorem emb3 (r : Fin 8) (l : Fin 2048) :
    (win0_3.blk t).view.emb (at2 r l) = at2 (n := 128) (m := 8192) (row t r) (lane t l) := by
  blk_ext [idx3 t, row, lane, at2_0, at2_1]
theorem emb4 (r : Fin 8) (l : Fin 2048) :
    (win0_4.blk t).view.emb (at2 r l) = at2 (n := 128) (m := 8192) (row t r) (lane t l) := by
  blk_ext [idx4 t, row, lane, at2_0, at2_1]
theorem emb5 (r : Fin 8) (l : Fin 2048) :
    (win0_5.blk t).view.emb (at2 r l) = at2 (n := 128) (m := 8192) (row t r) (lane t l) := by
  blk_ext [idx5 t, row, lane, at2_0, at2_1]
theorem emb6 (k : Fin 20) (r : Fin 8) (l : Fin 2048) :
    (win0_6.blk t).view.emb (at3 k r l) = at3 (n := 20) (m := 128) (l := 8192) k (row t r) (lane t l) := by
  blk_ext [idx6 t, row, lane, at3_0, at3_1, at3_2]

/-- The times' block, at an index. -/
theorem blk0 (r : Fin 8) (l : Fin 128) : (iblk m c 0 t : Vec F S8x128 .f32) (at2 r l) = dt m c (at1 (row t r)) :=
  (congrArg (V m c main_v4) (emb0 t r l)).trans (v4_apply m c _ _)

/-- The features' block, at an index. -/
theorem blk1 (k : Fin 20) (r : Fin 8) (l : Fin 2048) :
    (iblk m c 1 t : Vec F S20x8x2048 .f32) (at3 k r l) = ct m c (at3 (row t r) (lane t l) k) :=
  (congrArg (V m c main_v0) (emb1 t k r l)).trans (v0_apply m c _ _ _)

/-- The velocities' block, at an index. -/
theorem blk2 (k : Fin 20) (r : Fin 8) (l : Fin 2048) :
    (iblk m c 2 t : Vec F S20x8x2048 .f32) (at3 k r l) = vc m c (at3 (row t r) (lane t l) k) :=
  (congrArg (V m c main_v1) (emb2 t k r l)).trans (v1_apply m c _ _ _)

/-- The old tokens' block, at an index. -/
theorem blk3 (r : Fin 8) (l : Fin 2048) :
    (iblk m c 3 t : Vec F S8x2048 .i32) (at2 r l) = xt m c (at2 (row t r) (lane t l)) :=
  (congrArg (V m c main_arg0) (emb3 t r l)).trans (congrFun (V_main_arg0 m c) _)

/-- The mask's block is true where the mask is. -/
theorem blk4 (r : Fin 8) (l : Fin 2048) :
    IntOp.cmpi .ne ((iblk m c 4 t : Vec F S8x2048 .i32) (at2 r l)) 0#32 = mask m c (at2 (row t r) (lane t l)) :=
  (congrArg (fun w => IntOp.cmpi .ne w 0#32) ((congrArg (V m c main_v2) (emb4 t r l)).trans (v2_apply m c _ _))).trans (wide_ne _)

/-! ## The arrays -/

/-- The new feature of class `k` at position `l` of batch row `n`. -/
def moved (n : Fin 128) (l : Fin 8192) (k : Fin 20) : F .f32 :=
  Spec.moved (ct m c (at3 n l k)) (vc m c (at3 n l k)) (dt m c (at1 n))

/-- The new features of a block are the arguments'. -/
theorem new_eq (k : Fin 20) (r : Fin 8) (l : Fin 2048) :
    Block.new (iblk m c 0 t) (iblk m c 1 t) (iblk m c 2 t) k r l = moved m c (row t r) (lane t l) k := by
  unfold Block.new moved
  rw [blk0, blk1, blk2]

/-- What the array of tokens ends holding. -/
def tokens (y : S128x8192.Idx) : BitVec 32 :=
  Scalar.select (mask m c y)
    (Spec.pick fun k => Spec.score (Spec.counter (y 0).val (y 1).val k.val) (Spec.logit (moved m c (y 0) (y 1) k))) (xt m c y)

/-- What the array of features ends holding, the classes outermost. -/
def features (y : S20x128x8192.Idx) : F .f32 :=
  Scalar.select (mask m c (at2 (n := 128) (m := 8192) (y 1) (y 2))) (moved m c (y 1) (y 2) (y 0))
    (ct m c (at3 (n := 128) (m := 8192) (l := 20) (y 1) (y 2) (y 0)))

/-- The array of tokens after the run. -/
theorem tokens_arr : (dats m 0 c).arrAt 5 cfg0.N = tokens m c := by
  refine (dats m 0 c).arrAt_eq_of_covers 5 _ (by decide +kernel) fun t _ y => ?_
  obtain ⟨r, l, rfl⟩ := ex2 (n := 8) (m := 2048) y
  refine (congrFun (after0_5 m c t) (at2 r l)).trans ((Block.tokens_apply _ _ _ _ _ _ _).trans ?_)
  refine Eq.trans ?_ (congrArg (tokens m c) (emb5 t r l)).symm
  unfold Block.tokens tokens
  rw [blk3, blk4]
  refine congrArg (fun w => Scalar.select _ w _) (congrArg Spec.pick (funext fun k => ?_))
  exact congrArg (fun w => Spec.score _ (Spec.logit w)) (new_eq m c t k r l)

/-- The array of features after the run. -/
theorem features_arr : (dats m 0 c).arrAt 6 cfg0.N = features m c := by
  refine (dats m 0 c).arrAt_eq_of_covers 6 _ (by decide +kernel) fun t _ y => ?_
  obtain ⟨k, r, l, rfl⟩ := ex3 (n := 20) (m := 8) (l := 2048) y
  refine (congrFun (after0_6 m c t) (at3 k r l)).trans ((Block.features_apply _ _ _ _ _ _ _).trans ?_)
  refine Eq.trans ?_ (congrArg (features m c) (emb6 t k r l)).symm
  show Scalar.select (IntOp.cmpi .ne ((iblk m c 4 t : Vec F S8x2048 .i32) (at2 r l)) 0#32)
    (Block.new (iblk m c 0 t) (iblk m c 1 t) (iblk m c 2 t) k r l) ((iblk m c 1 t : Vec F S20x8x2048 .f32) (at3 k r l)) = _
  rw [blk1, blk4, new_eq]
  rfl

end Cert.Proof.Arrays

end
-- ==== Proof.KernelRun.lean ====
/- The run of the kernel, its two results read: the tokens and the features as functions of the arguments. -/
module

public import proofs.«01_k».proof.Proof.Arrays

@[expose] public section

set_option maxRecDepth 16384

noncomputable section

namespace Cert.Proof.KernelRun

open Idealize.ShloMosaic Idealize.ShloMosaic.TcCoe Idealize.SL.Sem Cert.KernelIdeal Cert.KernelIdeal.Gen Cert.Proof.Index
open Cert.Proof.Arrays

variable {F : FTy → Type} [FloatOps F]
variable (m : (ℓ : Loc nD τ sig) → Buf (Elt F) ℓ) (ρ : Dev nD → PrngReg) (c : Dev nD)

/-- What the features' result ends holding. -/
def result (y : S128x8192x20.Idx) : F .f32 :=
  Scalar.select (mask m c (at2 (n := 128) (m := 8192) (y 0) (y 1))) (moved m c (y 0) (y 1) (y 2)) (ct m c y)

/-- The operation after the region leaves the features with the classes innermost. -/
theorem tail_eq : Pipeline.afterTail₀ cfgs (dats m) 0 (V0 m) [hostOps1] c main_v6
    = transpose S128x8192x20 [1, 2, 0] (features m c) transposes_S20x128x8192_S128x8192x20_1_2_0 := by
  show StableHlo.after hostOps1 (Pipeline.withArrays spec0 c (V0 m c) fun w => (dats m 0 c).arrAt w cfg0.N)
    (Proc.devRef .tc main_v6) = _
  unfold hostOps1
  after_results
  refine congrArg (fun x => transpose S128x8192x20 [1, 2, 0] x transposes_S20x128x8192_S128x8192x20_1_2_0) ?_
  exact (Pipeline.withArrays_arr spec0 (by decide) c (V0 m c) (fun w => (dats m 0 c).arrAt w cfg0.N) 6).trans (features_arr m c)

/-- The features' result is the specification's. -/
theorem result_eq : Pipeline.afterTail₀ cfgs (dats m) 0 (V0 m) [hostOps1] c main_v6 = result m c := by
  refine (tail_eq m c).trans (funext fun y => ?_)
  obtain ⟨n, l, k, rfl⟩ := ex3 (n := 128) (m := 8192) (l := 20) y
  exact transpose_apply (s := S20x128x8192) (t := S128x8192x20) _ _ _ _ (at3 k n l) fun a => by
    match a with | ⟨0, _⟩ => rfl | ⟨1, _⟩ => rfl | ⟨2, _⟩ => rfl

/-- The kernel runs, its results end as the specification says, and its arguments as they were. -/
theorem run : θ_run defs (onTc (τ := τ) (main (F := F))) ⟨m, fun _ => 0, ρ⟩ fun r => ∀ c : Dev nD,
      r.2.mem ((c.tc : Thread nD τ).loc main_v5_0) = tokens m c
      ∧ r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine θ_run_mono (θ_run_and (run_main m ρ) (unchanged m ρ)) fun r h c => ?_
  exact ⟨((h.1 c).1 5).trans (tokens_arr m c),
    ((h.1 c).2 main_v6 (Pipeline.mem_restRefs_of main_v6 (by decide) (by decide))).trans (result_eq m c), h.2 c⟩

end Cert.Proof.KernelRun

end
-- ==== Proof.Straight.lean ====
/- What a straight line of host operations leaves, when each operation writes a buffer of its own, later in the
   signature than every buffer it reads: the contents at the end satisfy every operation's own equation. -/
module

public import Idealize.ShloMosaic.Lib.StableHlo.RunHlo

@[expose] public section

noncomputable section

namespace Cert.Proof.Straight

open Idealize.ShloMosaic Idealize.SL.Sem Idealize.ShloMosaic.StableHlo

variable {τ : Topo} {sig : RefSig} {Val : EltTy → Type}

/-- The place of a buffer in its memory space. -/
def rank (r : Ref sig .tc) : ℕ := r.idx.val

/-- The operation writes just the buffer `y`, of place `n`; what it leaves there depends only on buffers of places
    below `n`; and it draws nothing. -/
def Step (n : ℕ) (op : HloOp τ sig Val) : Prop :=
  ∃ y : Ref sig .tc, op.writes = {Proc.devRef .tc y} ∧ rank y = n ∧ op.fresh = ∅ ∧ op.bufs ⊆ tcRefs τ sig ∧
    ∀ V V' : Valuation τ sig Val, (∀ x : Ref sig .tc, rank x < n → V (Proc.devRef .tc x) = V' (Proc.devRef .tc x)) →
      op.result V (Proc.devRef .tc y) = op.result V' (Proc.devRef .tc y)

/-- The operations write the buffers of places `n`, `n + 1`, …, in this order, each from buffers of lower places. -/
def Ordered : ℕ → List (HloOp τ sig Val) → Prop
  | _, [] => True
  | n, op :: l => Step n op ∧ Ordered (n + 1) l

theorem Step.nullary {n : ℕ} (y : Ref sig .tc) (v : y.ty.Contents Val) (hy) (h : rank y = n) :
    Step n (nullary (τ := τ) y v hy) :=
  ⟨y, rfl, h, rfl, by simp, fun V V' _ => by rw [nullary_result, nullary_result]⟩

theorem Step.unary {n : ℕ} (x y : Ref sig .tc) (f : x.ty.Contents Val → y.ty.Contents Val) (hx hy) (h : rank y = n)
    (h1 : rank x < n) : Step n (unary (τ := τ) x y f hx hy) :=
  ⟨y, rfl, h, rfl, by simp, fun V V' e => by rw [unary_result, unary_result, e x h1]⟩

theorem Step.binary {n : ℕ} (a b y : Ref sig .tc) (f : a.ty.Contents Val → b.ty.Contents Val → y.ty.Contents Val)
    (ha hb hy) (h : rank y = n) (h1 : rank a < n) (h2 : rank b < n) : Step n (binary (τ := τ) a b y f ha hb hy) :=
  ⟨y, rfl, h, rfl, by simp, fun V V' e => by rw [binary_result, binary_result, e a h1, e b h2]⟩

theorem Step.ternary {n : ℕ} (c a b y : Ref sig .tc)
    (f : c.ty.Contents Val → a.ty.Contents Val → b.ty.Contents Val → y.ty.Contents Val)
    (hc ha hb hy) (h : rank y = n) (h0 : rank c < n) (h1 : rank a < n) (h2 : rank b < n) :
    Step n (ternary (τ := τ) c a b y f hc ha hb hy) :=
  ⟨y, rfl, h, rfl, by simp, fun V V' e => by rw [ternary_result, ternary_result, e c h0, e a h1, e b h2]⟩

theorem Step.quaternary {n : ℕ} (a b c e y : Ref sig .tc)
    (f : a.ty.Contents Val → b.ty.Contents Val → c.ty.Contents Val → e.ty.Contents Val → y.ty.Contents Val)
    (ha hb hc he hy) (h : rank y = n) (h0 : rank a < n) (h1 : rank b < n) (h2 : rank c < n) (h3 : rank e < n) :
    Step n (quaternary (τ := τ) a b c e y f ha hb hc he hy) :=
  ⟨y, rfl, h, rfl, by simp, fun V V' q => by
    rw [quaternary_result, quaternary_result, q a h0, q b h1, q c h2, q e h3]⟩

theorem Step.reshape {n : ℕ} (x y : Ref sig .tc) (he hn hx hy) (h : rank y = n) (h1 : rank x < n) :
    Step n (reshape (τ := τ) (Val := Val) x y he hn hx hy) :=
  ⟨y, rfl, h, rfl, by simp, fun V V' e => by rw [reshape_result, reshape_result, e x h1]⟩

/-- An ordered line leaves every buffer of a place below its first alone. -/
theorem after_of_lt {x : Ref sig .tc} : ∀ {n : ℕ} {l : List (HloOp τ sig Val)}, Ordered n l → rank x < n →
    ∀ V, after l V (Proc.devRef .tc x) = V (Proc.devRef .tc x)
  | _, [], _, _, _ => rfl
  | n, op :: l, ⟨⟨y, hw, hy, _⟩, hl⟩, hx, V => by
    rw [after_cons, after_of_lt hl (by omega), result_of_writes_ne op V y x hw (by rintro rfl; omega)]

/-- What an operation writes is, in the contents `W`, what it computes from `W` itself. -/
def Fix (W : Valuation τ sig Val) (op : HloOp τ sig Val) : Prop :=
  ∀ y : Ref sig .tc, op.writes = {Proc.devRef .tc y} → W (Proc.devRef .tc y) = op.result W (Proc.devRef .tc y)

/-- The contents after an ordered line satisfy the equation of each of its operations. -/
theorem fix_of_mem : ∀ {n : ℕ} {l : List (HloOp τ sig Val)}, Ordered n l → ∀ (V : Valuation τ sig Val),
    ∀ op ∈ l, Fix (after l V) op
  | _, [], _, _, _, h => nomatch h
  | n, op :: l, ⟨⟨y, hw, hy, _, _, hr⟩, hl⟩, V, o, ho => by
    rw [after_cons]
    rcases List.mem_cons.1 ho with rfl | ho
    · intro z hz
      obtain rfl : z = y := Proc.devRef_injective _ (Finset.singleton_injective (hz ▸ hw))
      rw [after_of_lt hl (by omega)]
      refine hr _ _ fun x hx => ?_
      rw [after_of_lt hl (by omega), result_of_writes_ne o V z x hw (by rintro rfl; omega)]
    · exact fix_of_mem hl _ o ho

theorem Ordered.bufs : ∀ {n : ℕ} {l : List (HloOp τ sig Val)}, Ordered n l → l.Forall fun op => op.bufs ⊆ tcRefs τ sig
  | _, [], _ => trivial
  | _, _ :: _, ⟨⟨_, _, _, _, hb, _⟩, hl⟩ => (List.forall_cons _ _ _).2 ⟨hb, Ordered.bufs hl⟩

theorem Ordered.fresh : ∀ {n : ℕ} {l : List (HloOp τ sig Val)}, Ordered n l → ∀ op ∈ l, op.fresh = ∅
  | _, [], _, _, h => nomatch h
  | _, _ :: _, ⟨⟨_, _, _, hf, _⟩, hl⟩, o, ho => by
    rcases List.mem_cons.1 ho with rfl | ho
    · exact hf
    · exact Ordered.fresh hl o ho

section Line

variable {T Ta Tb Tc Te : BufTy} {n : ℕ} {l : List (HloOp τ sig Val)}

theorem Ordered.nullary (y : TRef sig T) (v : T.Contents Val) (h : rank y.ref = n) (t : Ordered (rank y.ref + 1) l) :
    Ordered n (TRef.nullary y v :: l) := ⟨Step.nullary _ _ _ h, h ▸ t⟩

theorem Ordered.unary (x : TRef sig Ta) (y : TRef sig T) (f : Ta.Contents Val → T.Contents Val) (h : rank y.ref = n)
    (h1 : rank x.ref < n) (t : Ordered (rank y.ref + 1) l) : Ordered n (TRef.unary x y f :: l) :=
  ⟨Step.unary _ _ _ _ _ h h1, h ▸ t⟩

theorem Ordered.binary (a : TRef sig Ta) (b : TRef sig Tb) (y : TRef sig T)
    (f : Ta.Contents Val → Tb.Contents Val → T.Contents Val) (h : rank y.ref = n) (h1 : rank a.ref < n)
    (h2 : rank b.ref < n) (t : Ordered (rank y.ref + 1) l) : Ordered n (TRef.binary a b y f :: l) :=
  ⟨Step.binary _ _ _ _ _ _ _ h h1 h2, h ▸ t⟩

theorem Ordered.ternary (c : TRef sig Tc) (a : TRef sig Ta) (b : TRef sig Tb) (y : TRef sig T)
    (f : Tc.Contents Val → Ta.Contents Val → Tb.Contents Val → T.Contents Val) (h : rank y.ref = n)
    (h0 : rank c.ref < n) (h1 : rank a.ref < n) (h2 : rank b.ref < n) (t : Ordered (rank y.ref + 1) l) :
    Ordered n (TRef.ternary c a b y f :: l) :=
  ⟨Step.ternary _ _ _ _ _ _ _ _ _ h h0 h1 h2, h ▸ t⟩

theorem Ordered.quaternary (a : TRef sig Ta) (b : TRef sig Tb) (c : TRef sig Tc) (e : TRef sig Te) (y : TRef sig T)
    (f : Ta.Contents Val → Tb.Contents Val → Tc.Contents Val → Te.Contents Val → T.Contents Val) (h : rank y.ref = n)
    (h0 : rank a.ref < n) (h1 : rank b.ref < n) (h2 : rank c.ref < n) (h3 : rank e.ref < n)
    (t : Ordered (rank y.ref + 1) l) : Ordered n (TRef.quaternary a b c e y f :: l) :=
  ⟨Step.quaternary _ _ _ _ _ _ _ _ _ _ _ h h0 h1 h2 h3, h ▸ t⟩

theorem Ordered.reshape (x : TRef sig Ta) (y : TRef sig T) (he : Ta.elt = T.elt) (hn : Ta.shape.ShapeCasts T.shape)
    (h : rank y.ref = n) (h1 : rank x.ref < n) (t : Ordered (rank y.ref + 1) l) :
    Ordered n (TRef.reshape x y he hn :: l) :=
  ⟨Step.reshape _ _ _ _ _ _ h h1, h ▸ t⟩

end Line

/-- What the contents `W` hold at a typed reference. -/
def val {T : BufTy} (W : Valuation τ sig Val) (x : TRef sig T) : T.Contents Val := x.ofBuf (W (Proc.devRef .tc x.ref))

section Equations

variable {W : Valuation τ sig Val} {T Ta Tb Tc Te : BufTy}

theorem val_toBuf (y : TRef sig T) (v : T.Contents Val) (h : W (Proc.devRef .tc y.ref) = y.toBuf v) : val W y = v := by
  unfold val; rw [h]; simp [TRef.toBuf, TRef.ofBuf]

theorem fix_nullary {y : TRef sig T} {v : T.Contents Val} (h : Fix W (TRef.nullary y v)) : val W y = v :=
  val_toBuf _ _ ((h y.ref rfl).trans (nullary_result _ _ _ _))

theorem fix_unary {x : TRef sig Ta} {y : TRef sig T} {f : Ta.Contents Val → T.Contents Val}
    (h : Fix W (TRef.unary x y f)) : val W y = f (val W x) :=
  val_toBuf _ _ ((h y.ref rfl).trans (unary_result _ _ _ _ _ _))

theorem fix_binary {a : TRef sig Ta} {b : TRef sig Tb} {y : TRef sig T}
    {f : Ta.Contents Val → Tb.Contents Val → T.Contents Val}
    (h : Fix W (TRef.binary a b y f)) : val W y = f (val W a) (val W b) :=
  val_toBuf _ _ ((h y.ref rfl).trans (binary_result _ _ _ _ _ _ _ _))

theorem fix_ternary {c : TRef sig Tc} {a : TRef sig Ta} {b : TRef sig Tb} {y : TRef sig T}
    {f : Tc.Contents Val → Ta.Contents Val → Tb.Contents Val → T.Contents Val}
    (h : Fix W (TRef.ternary c a b y f)) : val W y = f (val W c) (val W a) (val W b) :=
  val_toBuf _ _ ((h y.ref rfl).trans (ternary_result _ _ _ _ _ _ _ _ _ _))

theorem fix_quaternary {a : TRef sig Ta} {b : TRef sig Tb} {c : TRef sig Tc} {e : TRef sig Te} {y : TRef sig T}
    {f : Ta.Contents Val → Tb.Contents Val → Tc.Contents Val → Te.Contents Val → T.Contents Val}
    (h : Fix W (TRef.quaternary a b c e y f)) : val W y = f (val W a) (val W b) (val W c) (val W e) :=
  val_toBuf _ _ ((h y.ref rfl).trans (quaternary_result _ _ _ _ _ _ _ _ _ _ _ _))

theorem fix_reshape {x : TRef sig Ta} {y : TRef sig T} {he : Ta.elt = T.elt} {hn : Ta.shape.ShapeCasts T.shape}
    (h : Fix W (TRef.reshape x y he hn)) : val W y = fun i => he ▸ shapeCast T.shape (val W x) hn i := by
  obtain ⟨x, rfl, hx, hx'⟩ := x
  obtain ⟨y, rfl, hy, hy'⟩ := y
  exact (h y rfl).trans (reshape_result _ _ _ _ _ _ _)

end Equations

/-- Two straight lines one after the other. -/
theorem IsSeq.append {nD : ℕ} {Λ : Labels} {p k : Prog (TpuEff nD τ sig Val Λ .tc) PUnit} {l₁ l₂ : List (HloOp τ sig Val)}
    (h₁ : IsSeq p l₁) (h₂ : IsSeq k l₂) : IsSeq (p >>= fun _ => k) (l₁ ++ l₂) := by
  unfold IsSeq at *; rw [h₁, h₂, seq_append]

end Cert.Proof.Straight

end
-- ==== Proof.RefOps.lean ====
/- The reference as a straight line of operations: the list of them, function by function, and the fact that each writes
   a buffer of its own, later than every buffer it reads. -/
module

public import proofs.«01_k».proof.ReferenceIdeal
public import Idealize.ShloMosaic.PureOps.Ideal
public import proofs.«01_k».proof.Proof.Straight

@[expose] public section

set_option maxRecDepth 16384

noncomputable section

namespace Cert.Proof.RefOps

open Idealize.ShloMosaic Idealize.SL.Sem Idealize.ShloMosaic.StableHlo Cert.ReferenceIdeal Cert.Proof.Straight

variable [Cert.ReferenceIdeal.Facts]
open Cert.ReferenceIdeal.Facts₀ Cert.ReferenceIdeal.Facts

/-- An operation of the reference. -/
abbrev Op : Type := HloOp τ sig (Elt Ideal)

/-- A scalar at every index of the noise. -/
abbrev splat {α : Type} : (S_.Idx → α) → S1048576x20.Idx → α := broadcastInDim S1048576x20 ![] bcast_S_S1048576x20

/-- The operations of one call of `clip`. -/
def clipOps (arg0 : TRef sig ⟨S128x8192x20, .f32⟩) (arg1 : TRef sig ⟨S_, .f32⟩) (arg2 : TRef sig ⟨S_, .f32⟩)
    (φ : fn_clip.Bufs) : List Op :=
  [TRef.unary arg1 φ.v0 id,
    TRef.unary φ.v0 φ.v1 (broadcastInDim S128x8192x20 ![] bcast_S_S128x8192x20),
    TRef.binary φ.v1 arg0 φ.v2 (maximumf (F := Ideal) (φ := .f32)),
    TRef.unary arg2 φ.v3 id,
    TRef.unary φ.v3 φ.v4 (broadcastInDim S128x8192x20 ![] bcast_S_S128x8192x20),
    TRef.binary φ.v4 φ.v2 φ.v5 (minimumf (F := Ideal) (φ := .f32))]

/-- The operations of one round: `a' := a + b`, `b' := a' xor (b rotated by r)`, the rotation as a left shift by `r` or'ed
    with a right shift by `s`. -/
def roundOps (r s : BitVec 32) (a b a' : TRef sig ⟨S1048576x20, .i32⟩) (c₁ : TRef sig ⟨S_, .i32⟩)
    (b₁ l : TRef sig ⟨S1048576x20, .i32⟩) (c₂ : TRef sig ⟨S_, .i32⟩) (b₂ q o b' : TRef sig ⟨S1048576x20, .i32⟩) : List Op :=
  [TRef.binary a b a' addi, TRef.nullary c₁ (constantI S_ 32 r), TRef.unary c₁ b₁ splat,
   TRef.binary b b₁ l Host.shli, TRef.nullary c₂ (constantI S_ 32 s), TRef.unary c₂ b₂ splat,
   TRef.binary b b₂ q Host.shrui, TRef.binary l q o ori, TRef.binary a' o b' xori]

/-- The operations of one key injection: `a' := a + k₁`, `b' := b + k₂ + i`. -/
def injOps (i : BitVec 32) (k₁ k₂ : TRef sig ⟨S_, .i32⟩) (a b w₁ a' w₂ t : TRef sig ⟨S1048576x20, .i32⟩)
    (c : TRef sig ⟨S_, .i32⟩) (w₃ b' : TRef sig ⟨S1048576x20, .i32⟩) : List Op :=
  [TRef.unary k₁ w₁ splat, TRef.binary a w₁ a' addi,
   TRef.unary k₂ w₂ splat, TRef.binary b w₂ t addi,
   TRef.nullary c (constantI S_ 32 i), TRef.unary c w₃ splat, TRef.binary t w₃ b' addi]

/-- The operations of one call of `threefry2x32`: five groups of four rounds, a key injection after each. -/
def threefry2x32Ops (arg0 : TRef sig ⟨S_, .i32⟩) (arg1 : TRef sig ⟨S_, .i32⟩) (arg2 : TRef sig ⟨S1048576x20, .i32⟩)
    (arg3 : TRef sig ⟨S1048576x20, .i32⟩) (φ : fn_threefry2x32.Bufs) : List Op :=
  [TRef.binary arg0 arg1 φ.v0 xori,
    TRef.nullary φ.c (constantI S_ 32 466688986#32),
    TRef.binary φ.v0 φ.c φ.v1 xori,
    TRef.unary arg0 φ.v2 splat,
    TRef.binary arg2 φ.v2 φ.v3 addi,
    TRef.unary arg1 φ.v4 splat,
    TRef.binary arg3 φ.v4 φ.v5 addi] ++
   (roundOps 13 19 φ.v3 φ.v5 φ.v6 φ.c_0 φ.v7 φ.v8 φ.c_1 φ.v9 φ.v10 φ.v11 φ.v12 ++
   (roundOps 15 17 φ.v6 φ.v12 φ.v13 φ.c_2 φ.v14 φ.v15 φ.c_3 φ.v16 φ.v17 φ.v18 φ.v19 ++
   (roundOps 26 6 φ.v13 φ.v19 φ.v20 φ.c_4 φ.v21 φ.v22 φ.c_5 φ.v23 φ.v24 φ.v25 φ.v26 ++
   (roundOps 6 26 φ.v20 φ.v26 φ.v27 φ.c_6 φ.v28 φ.v29 φ.c_7 φ.v30 φ.v31 φ.v32 φ.v33 ++
   (injOps 1 arg1 φ.v1 φ.v27 φ.v33 φ.v34 φ.v35 φ.v36 φ.v37 φ.c_8 φ.v38 φ.v39 ++
   (roundOps 17 15 φ.v35 φ.v39 φ.v40 φ.c_9 φ.v41 φ.v42 φ.c_10 φ.v43 φ.v44 φ.v45 φ.v46 ++
   (roundOps 29 3 φ.v40 φ.v46 φ.v47 φ.c_11 φ.v48 φ.v49 φ.c_12 φ.v50 φ.v51 φ.v52 φ.v53 ++
   (roundOps 16 16 φ.v47 φ.v53 φ.v54 φ.c_13 φ.v55 φ.v56 φ.c_14 φ.v57 φ.v58 φ.v59 φ.v60 ++
   (roundOps 24 8 φ.v54 φ.v60 φ.v61 φ.c_15 φ.v62 φ.v63 φ.c_16 φ.v64 φ.v65 φ.v66 φ.v67 ++
   (injOps 2 φ.v1 arg0 φ.v61 φ.v67 φ.v68 φ.v69 φ.v70 φ.v71 φ.c_17 φ.v72 φ.v73 ++
   (roundOps 13 19 φ.v69 φ.v73 φ.v74 φ.c_18 φ.v75 φ.v76 φ.c_19 φ.v77 φ.v78 φ.v79 φ.v80 ++
   (roundOps 15 17 φ.v74 φ.v80 φ.v81 φ.c_20 φ.v82 φ.v83 φ.c_21 φ.v84 φ.v85 φ.v86 φ.v87 ++
   (roundOps 26 6 φ.v81 φ.v87 φ.v88 φ.c_22 φ.v89 φ.v90 φ.c_23 φ.v91 φ.v92 φ.v93 φ.v94 ++
   (roundOps 6 26 φ.v88 φ.v94 φ.v95 φ.c_24 φ.v96 φ.v97 φ.c_25 φ.v98 φ.v99 φ.v100 φ.v101 ++
   (injOps 3 arg0 arg1 φ.v95 φ.v101 φ.v102 φ.v103 φ.v104 φ.v105 φ.c_26 φ.v106 φ.v107 ++
   (roundOps 17 15 φ.v103 φ.v107 φ.v108 φ.c_27 φ.v109 φ.v110 φ.c_28 φ.v111 φ.v112 φ.v113 φ.v114 ++
   (roundOps 29 3 φ.v108 φ.v114 φ.v115 φ.c_29 φ.v116 φ.v117 φ.c_30 φ.v118 φ.v119 φ.v120 φ.v121 ++
   (roundOps 16 16 φ.v115 φ.v121 φ.v122 φ.c_31 φ.v123 φ.v124 φ.c_32 φ.v125 φ.v126 φ.v127 φ.v128 ++
   (roundOps 24 8 φ.v122 φ.v128 φ.v129 φ.c_33 φ.v130 φ.v131 φ.c_34 φ.v132 φ.v133 φ.v134 φ.v135 ++
   (injOps 4 arg1 φ.v1 φ.v129 φ.v135 φ.v136 φ.v137 φ.v138 φ.v139 φ.c_35 φ.v140 φ.v141 ++
   (roundOps 13 19 φ.v137 φ.v141 φ.v142 φ.c_36 φ.v143 φ.v144 φ.c_37 φ.v145 φ.v146 φ.v147 φ.v148 ++
   (roundOps 15 17 φ.v142 φ.v148 φ.v149 φ.c_38 φ.v150 φ.v151 φ.c_39 φ.v152 φ.v153 φ.v154 φ.v155 ++
   (roundOps 26 6 φ.v149 φ.v155 φ.v156 φ.c_40 φ.v157 φ.v158 φ.c_41 φ.v159 φ.v160 φ.v161 φ.v162 ++
   (roundOps 6 26 φ.v156 φ.v162 φ.v163 φ.c_42 φ.v164 φ.v165 φ.c_43 φ.v166 φ.v167 φ.v168 φ.v169 ++
   (injOps 5 φ.v1 arg0 φ.v163 φ.v169 φ.v170 φ.v171 φ.v172 φ.v173 φ.c_44 φ.v174 φ.v175)))))))))))))))))))))))))

/-- The operations of one call of `uniform`. -/
def uniformOps (arg0 : TRef sig ⟨S2, .i32⟩) (arg1 : TRef sig ⟨S_, .f32⟩) (arg2 : TRef sig ⟨S_, .f32⟩)
    (φ : fn_uniform.Bufs) : List Op :=
  [TRef.unary arg1 φ.v0 id,
    TRef.unary arg2 φ.v1 id,
    TRef.unary φ.v0 φ.v2 (broadcastInDim S1x1 ![] bcast_S_S1x1),
    TRef.unary φ.v1 φ.v3 (broadcastInDim S1x1 ![] bcast_S_S1x1),
    TRef.unary arg0 φ.v4 (extractStridedSlice S1 ![0] · slices_S2_S1_0),
    TRef.reshape φ.v4 φ.v5 (rfl : (.i32 : EltTy) = .i32) shapeCasts_S1_S_,
    TRef.unary arg0 φ.v6 (extractStridedSlice S1 ![1] · slices_S2_S1_1),
    TRef.reshape φ.v6 φ.v7 (rfl : (.i32 : EltTy) = .i32) shapeCasts_S1_S_,
    TRef.nullary φ.v8 (iotaInDim S1048576x20 64 0),
    TRef.nullary φ.v9 (iotaInDim S1048576x20 64 1),
    TRef.nullary φ.c (constantI S_ 64 20#64),
    TRef.unary φ.c φ.v10 splat,
    TRef.binary φ.v10 φ.v8 φ.v11 muli,
    TRef.nullary φ.c_0 (constantI S_ 64 1#64),
    TRef.unary φ.c_0 φ.v12 splat,
    TRef.binary φ.v12 φ.v9 φ.v13 muli,
    TRef.binary φ.v11 φ.v13 φ.v14 addi,
    TRef.nullary φ.c_1 (constantI S_ 64 32#64),
    TRef.unary φ.c_1 φ.v15 splat,
    TRef.binary φ.v14 φ.v15 φ.v16 Host.shrui,
    TRef.unary φ.v14 φ.v17 (trunci 32 · natLt_32_64),
    TRef.unary φ.v16 φ.v18 (trunci 32 · natLt_32_64)] ++
   (threefry2x32Ops φ.v5 φ.v7 φ.v18 φ.v17 φ.call0 ++
   ([TRef.binary φ.call0.v171 φ.call0.v175 φ.v20 xori,
    TRef.nullary φ.c_2 (constantI S_ 32 9#32),
    TRef.unary φ.c_2 φ.v21 splat,
    TRef.binary φ.v20 φ.v21 φ.v22 Host.shrui,
    TRef.nullary φ.c_3 (constantI S_ 32 1065353216#32),
    TRef.unary φ.c_3 φ.v23 splat,
    TRef.binary φ.v22 φ.v23 φ.v24 ori,
    TRef.unary φ.v24 φ.v25 (bitcastToFloat (F := Ideal) .f32),
    TRef.nullary φ.cst (constant (F := Ideal) S_ .f32 0x3F800000#32),
    TRef.unary φ.cst φ.v26 splat,
    TRef.binary φ.v25 φ.v26 φ.v27 (subf (F := Ideal) (φ := .f32)),
    TRef.binary φ.v3 φ.v2 φ.v28 (subf (F := Ideal) (φ := .f32)),
    TRef.unary φ.v28 φ.v29 (broadcastInDim S1048576x20 ![0, 1] bcast_S1x1_S1048576x20_0_1),
    TRef.binary φ.v27 φ.v29 φ.v30 (mulf (F := Ideal) (φ := .f32)),
    TRef.unary φ.v2 φ.v31 (broadcastInDim S1048576x20 ![0, 1] bcast_S1x1_S1048576x20_0_1),
    TRef.binary φ.v30 φ.v31 φ.v32 (addf (F := Ideal) (φ := .f32)),
    TRef.unary φ.v2 φ.v33 (broadcastInDim S1048576x20 ![0, 1] bcast_S1x1_S1048576x20_0_1),
    TRef.binary φ.v33 φ.v32 φ.v34 (maximumf (F := Ideal) (φ := .f32))]))

/-- The operations of one call of `argmax`. -/
def argmaxOps (arg0 : TRef sig ⟨S1048576x20, .f32⟩) (φ : fn_argmax.Bufs) : List Op :=
  [TRef.nullary φ.v0 (iotaInDim S1048576x20 32 1),
    TRef.nullary φ.cst (constant (F := Ideal) S_ .f32 0xFF800000#32),
    TRef.nullary φ.c (constantI S_ 32 0#32),
    TRef.quaternary arg0 φ.v0 φ.cst φ.c φ.v1_0
      (fun x y u v j => (Host.argReduce (reducer_argmax_f32_i32 (F := Ideal)) x y u v reducesTo_S1048576x20_S1048576_d1 h_S_ j).1),
    TRef.quaternary arg0 φ.v0 φ.cst φ.c φ.v1_1
      (fun x y u v j => (Host.argReduce (reducer_argmax_f32_i32 (F := Ideal)) x y u v reducesTo_S1048576x20_S1048576_d1 h_S_ j).2)]

/-- The operations of one call of `where` (the new features). -/
def whereOps (arg0 : TRef sig ⟨S128x8192x1, .i1⟩) (arg1 : TRef sig ⟨S128x8192x20, .f32⟩)
    (arg2 : TRef sig ⟨S128x8192x20, .f32⟩) (φ : fn_where.Bufs) : List Op :=
  [TRef.unary arg0 φ.v0 (broadcastInDim S128x8192x20 ![0, 1, 2] bcast_S128x8192x1_S128x8192x20_0_1_2),
    TRef.ternary φ.v0 arg1 arg2 φ.v1 select]

/-- The operations of one call of `where` (the new tokens). -/
def where_0Ops (arg0 : TRef sig ⟨S128x8192, .i1⟩) (arg1 : TRef sig ⟨S128x8192, .i32⟩)
    (arg2 : TRef sig ⟨S128x8192, .i32⟩) (φ : fn_where_0.Bufs) : List Op :=
  [TRef.ternary arg0 arg1 arg2 φ.v0 select]

/-- The operations of the reference, in order. -/
def ops : List Op :=
  [TRef.reshape (.of main_arg3) (.of main_v0) (rfl : (.f32 : EltTy) = .f32) shapeCasts_S128_S128x1x1,
    TRef.unary (.of main_v0 : TRef sig ⟨S128x1x1, .f32⟩) (.of main_v1)
      (broadcastInDim S128x8192x20 (![0, 1, 2] : Fin 3 → Fin 3) bcast_S128x1x1_S128x8192x20_0_1_2),
    TRef.binary (.of main_arg2) (.of main_v1) (.of main_v2) (mulf (F := Ideal) (φ := .f32)),
    TRef.binary (.of main_arg1) (.of main_v2) (.of main_v3) (addf (F := Ideal) (φ := .f32)),
    TRef.nullary (.of main_cst) (constant (F := Ideal) S_ .f32 0x00000000#32),
    TRef.nullary (.of main_cst_0) (constant (F := Ideal) S_ .f32 0x3F800000#32)] ++
   (clipOps (.of main_v3) (.of main_cst) (.of main_cst_0) main_call0 ++
   ([TRef.nullary (.of main_cst_1) (constant (F := Ideal) S_ .f32 0x322BCC77#32),
    TRef.unary (.of main_cst_1) (.of main_v5) (broadcastInDim S128x8192x20 ![] bcast_S_S128x8192x20),
    TRef.binary (.of main_v4) (.of main_v5) (.of main_v6) (addf (F := Ideal) (φ := .f32)),
    TRef.reshape (.of main_v6) (.of main_v7) (rfl : (.f32 : EltTy) = .f32) shapeCasts_S128x8192x20_S1048576x20,
    TRef.unary (.of main_v7) (.of main_v8) (Host.log (F := Ideal) (φ := .f32)),
    TRef.nullary (.of main_c) (constantI S_ 32 42#32),
    TRef.nullary (.of main_c_2) (constantI S_ 32 32#32),
    TRef.binary (.of main_c) (.of main_c_2) (.of main_v9) Host.shrui,
    TRef.unary (.of main_v9) (.of main_v10) id,
    TRef.unary (.of main_v10) (.of main_v11) (broadcastInDim S1 ![] bcast_S_S1),
    TRef.nullary (.of main_c_3) (constantI S_ 32 4294967295#32),
    TRef.binary (.of main_c) (.of main_c_3) (.of main_v12) andi,
    TRef.unary (.of main_v12) (.of main_v13) id,
    TRef.unary (.of main_v13) (.of main_v14) (broadcastInDim S1 ![] bcast_S_S1),
    TRef.binary (.of main_v11) (.of main_v14) (.of main_v15)
      (fun a b => concatenate S2 0 [⟨S1, a⟩, ⟨S1, b⟩] concatenates_S1_S1_S2_d0),
    TRef.nullary (.of main_cst_4) (constant (F := Ideal) S_ .f32 0x00000000#32),
    TRef.nullary (.of main_cst_5) (constant (F := Ideal) S_ .f32 0x3F800000#32)] ++
   (uniformOps (.of main_v15) (.of main_cst_4) (.of main_cst_5) main_call1 ++
   ([TRef.nullary (.of main_cst_6) (constant (F := Ideal) S_ .f32 0x00800000#32),
    TRef.unary (.of main_cst_6) (.of main_v17) splat,
    TRef.binary (.of main_v17) (.of main_v16) (.of main_v18) (maximumf (F := Ideal) (φ := .f32)),
    TRef.unary (.of main_v18) (.of main_v19) (Host.log (F := Ideal) (φ := .f32)),
    TRef.unary (.of main_v19) (.of main_v20) (Host.negf (F := Ideal) (φ := .f32)),
    TRef.unary (.of main_v20) (.of main_v21) (Host.log (F := Ideal) (φ := .f32)),
    TRef.unary (.of main_v21) (.of main_v22) (Host.negf (F := Ideal) (φ := .f32)),
    TRef.binary (.of main_v22) (.of main_v8) (.of main_v23) (addf (F := Ideal) (φ := .f32))] ++
   (argmaxOps (.of main_v23) main_call2 ++
   ([TRef.reshape (.of main_v24) (.of main_v25) (rfl : (.i32 : EltTy) = .i32) shapeCasts_S1048576_S128x8192,
    TRef.unary (.of main_arg4 : TRef sig ⟨S128x8192, .i1⟩) (.of main_v26) (broadcastInDim S128x8192x1 (![0, 1] : Fin 2 → Fin 3) bcast_S128x8192_S128x8192x1_0_1)] ++
   (whereOps (.of main_v26) (.of main_v3) (.of main_arg1) main_call3 ++
   (where_0Ops (.of main_arg4) (.of main_v25) (.of main_arg0) main_call4))))))))

/-- The reference is the straight line of its operations. -/
theorem main_isSeq (d : Dev nD) : IsSeq (main (F := Ideal) d) ops := by
  unfold main ops
  hlo_seq

/-- Each operation writes the next buffer of the signature, from earlier ones. -/
theorem ops_ordered : Ordered 5 ops := by
  unfold ops clipOps uniformOps threefry2x32Ops roundOps injOps argmaxOps whereOps where_0Ops
  simp only [List.cons_append, List.nil_append]
  repeat' first
    | with_reducible refine Ordered.unary _ _ _ (by decide) (by decide) ?_
    | with_reducible refine Ordered.binary _ _ _ _ (by decide) (by decide) (by decide) ?_
    | with_reducible refine Ordered.nullary _ _ (by decide) ?_
    | with_reducible refine Ordered.reshape _ _ _ _ (by decide) (by decide) ?_
    | with_reducible refine Ordered.ternary _ _ _ _ _ (by decide) (by decide) (by decide) (by decide) ?_
    | with_reducible refine Ordered.quaternary _ _ _ _ _ _ (by decide) (by decide) (by decide) (by decide) (by decide) ?_
    | exact trivial

end Cert.Proof.RefOps

end
-- ==== Proof.RefRun.lean ====
/- The run of the reference: what every buffer holds at the end, and that the arguments are as they were. -/
module

public import proofs.«01_k».proof.Proof.RefOps
public import Idealize.ShloMosaic.Lib.Quiescent

@[expose] public section

set_option maxRecDepth 16384

noncomputable section

namespace Cert.Proof.RefRun

open Idealize.ShloMosaic Idealize.SL.Sem Idealize.ShloMosaic.StableHlo Cert.ReferenceIdeal Cert.Proof.Straight
open Cert.Proof.RefOps

variable [Cert.ReferenceIdeal.Facts]
variable (m : (ℓ : Loc nD τ sig) → Buf (Elt Ideal) ℓ) (ρ : Dev nD → PrngReg)

/-- What the buffers of device `d` hold when the reference has run from the memory `m`. -/
def fin (d : Dev nD) : Valuation τ sig (Elt Ideal) := after ops (launchContents m d)

/-- The reference runs, and every buffer ends as the line of its operations leaves it. -/
theorem run_main : θ_run (defs (F := Ideal)) (onTc (τ := τ) (main (F := Ideal))) ⟨m, fun _ => 0, ρ⟩ fun r =>
    ∀ (d : Dev nD) (b : Ref sig .tc), r.2.mem ((d.tc : Thread nD τ).loc b) = fin m d (Proc.devRef .tc b) :=
  run_hlo defs main main_isSeq (by decide) (by decide) ops_ordered.bufs ops_ordered.fresh m ρ

/-- A buffer of the arguments holds at the end what it held at launch. -/
theorem fin_arg (d : Dev nD) (b : Ref sig .tc) (h : rank b < 5) :
    fin m d (Proc.devRef .tc b) = m ((d.tc : Thread nD τ).loc b) :=
  after_of_lt ops_ordered h _

/-- Every operation's equation holds of the final contents. -/
theorem fin_fix (d : Dev nD) : ∀ op ∈ ops, Fix (fin m d) op := fix_of_mem ops_ordered _

/-- The reference leaves its arguments alone and every semaphore at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run _ _ _).mono (fun r h => ⟨fun c => ?_, sem_eq_zero_of_no_sems (by decide) r.2⟩) (run_main m ρ)
  exact ⟨(h c _).trans (fin_arg m c _ (by decide)), (h c _).trans (fin_arg m c _ (by decide)),
    (h c _).trans (fin_arg m c _ (by decide)), (h c _).trans (fin_arg m c _ (by decide)),
    (h c _).trans (fin_arg m c _ (by decide))⟩

end Cert.Proof.RefRun

end
-- ==== Proof.Threefry.lean ====
/- The random words of the reference: one lemma for its rounds, one for its key injections, and by these its random word
   at an index as a function of the counter there. -/
module

public import proofs.«01_k».proof.Proof.RefOps
public import proofs.«01_k».proof.Proof.Word

@[expose] public section

set_option maxRecDepth 16384

noncomputable section

namespace Cert.Proof.Threefry

open Idealize.ShloMosaic Idealize.SL.Sem Idealize.ShloMosaic.StableHlo Cert.ReferenceIdeal Cert.Proof.Straight
open Cert.Proof.RefOps

variable [Cert.ReferenceIdeal.Facts]
open Cert.ReferenceIdeal.Facts₀ Cert.ReferenceIdeal.Facts
variable {W : Valuation τ sig (Elt Ideal)}

/-- The value of a scalar. -/
def the {e : EltTy} (W : Valuation τ sig (Elt Ideal)) (x : TRef sig ⟨S_, e⟩) : Elt Ideal e := val W x fun i => i.elim0

/-- A scalar is the same at its only index. -/
theorem val_scalar {e : EltTy} (x : TRef sig ⟨S_, e⟩) (i : S_.Idx) : val W x i = the W x :=
  congrArg (val W x) (funext fun k => k.elim0)

/-- A broadcast scalar is the scalar everywhere. -/
theorem splat_apply {e : EltTy} (x : TRef sig ⟨S_, e⟩) (y : S1048576x20.Idx) :
    splat (α := Elt Ideal e) (val W x) y = the W x := val_scalar x _

/-- A round of the reference, at an index. -/
theorem round_val {r s : BitVec 32} {a b a' : TRef sig ⟨S1048576x20, .i32⟩} {c₁ : TRef sig ⟨S_, .i32⟩}
    {b₁ l : TRef sig ⟨S1048576x20, .i32⟩} {c₂ : TRef sig ⟨S_, .i32⟩} {b₂ q o b' : TRef sig ⟨S1048576x20, .i32⟩}
    (h : ∀ op ∈ roundOps r s a b a' c₁ b₁ l c₂ b₂ q o b', Fix W op) (hr : r.toNat < 32) (hs : s.toNat < 32)
    (y : S1048576x20.Idx) : (val W a' y, val W b' y) = Word.mix r s (val W a y, val W b y) := by
  simp only [roundOps, List.forall_mem_cons] at h
  obtain ⟨h1, h2, h3, h4, h5, h6, h7, h8, h9, -⟩ := h
  rw [fix_binary h9, fix_binary h8, fix_binary h7, fix_binary h4, fix_unary h3, fix_unary h6, fix_nullary h2,
    fix_nullary h5, fix_binary h1]
  exact congrArg₂ Prod.mk rfl ((BitVec.xor_comm _ _).trans
    (congrArg₂ (· ^^^ ·) (congrArg₂ (· ||| ·) (Word.shli_eq _ hr) (Word.shrui_eq _ hs)) rfl))

/-- A key injection of the reference, at an index. -/
theorem inj_val {i : BitVec 32} {k₁ k₂ : TRef sig ⟨S_, .i32⟩} {a b w₁ a' w₂ t : TRef sig ⟨S1048576x20, .i32⟩}
    {c : TRef sig ⟨S_, .i32⟩} {w₃ b' : TRef sig ⟨S1048576x20, .i32⟩}
    (h : ∀ op ∈ injOps i k₁ k₂ a b w₁ a' w₂ t c w₃ b', Fix W op) (y : S1048576x20.Idx) :
    (val W a' y, val W b' y) = Word.inj i (the W k₁) (the W k₂) (val W a y, val W b y) := by
  simp only [injOps, List.forall_mem_cons] at h
  obtain ⟨h1, h2, h3, h4, h5, h6, h7, -⟩ := h
  rw [fix_binary h7, fix_binary h4, fix_binary h2, fix_unary h1, fix_unary h3, fix_unary h6, fix_nullary h5]
  exact congrArg₂ Prod.mk (congrArg₂ (· + ·) rfl (splat_apply k₁ y))
    (congrArg₂ (· + ·) (congrArg₂ (· + ·) rfl (splat_apply k₂ y)) rfl)

/-- The two random words of the reference at an index, when the key is `(0, 42)` and the counter there is `(0, x)`. -/
theorem threefry_val {arg0 arg1 : TRef sig ⟨S_, .i32⟩} {arg2 arg3 : TRef sig ⟨S1048576x20, .i32⟩} {φ : fn_threefry2x32.Bufs}
    (h : ∀ op ∈ threefry2x32Ops arg0 arg1 arg2 arg3 φ, Fix W op) (h0 : the W arg0 = 0#32) (h1 : the W arg1 = 42#32)
    (y : S1048576x20.Idx) (h2 : val W arg2 y = 0#32) :
    val W φ.v171 y ^^^ val W φ.v175 y = Word.noise (val W arg3 y + 42#32) := by
  simp only [threefry2x32Ops, List.forall_mem_append, List.forall_mem_cons] at h
  obtain ⟨⟨e0, e1, e2, e3, e4, e5, e6, -⟩, r1, r2, r3, r4, j1, r5, r6, r7, r8, j2, r9, r10, r11, r12, j3, r13, r14, r15, r16,
    j4, r17, r18, r19, r20, j5⟩ := h
  have hk : the W φ.v1 = 466689008#32 := by
    unfold the
    rw [fix_binary e2, fix_binary e0, fix_nullary e1]
    exact congrArg₂ (· ^^^ ·) (congrArg₂ (· ^^^ ·) h0 h1) rfl
  have ha : val W φ.v3 y = 0#32 := by
    rw [fix_binary e4, fix_unary e3]
    exact congrArg₂ (· + ·) h2 ((splat_apply arg0 y).trans h0)
  have hb : val W φ.v5 y = val W arg3 y + 42#32 := by
    rw [fix_binary e6, fix_unary e5]
    exact congrArg₂ (· + ·) rfl ((splat_apply arg1 y).trans h1)
  have e : (val W φ.v171 y, val W φ.v175 y) = Word.rounds 0#32 42#32 466689008#32 (0#32, val W arg3 y + 42#32) := by
    rw [inj_val j5, round_val r20 (by decide) (by decide), round_val r19 (by decide) (by decide),
      round_val r18 (by decide) (by decide), round_val r17 (by decide) (by decide),
      inj_val j4, round_val r16 (by decide) (by decide), round_val r15 (by decide) (by decide),
      round_val r14 (by decide) (by decide), round_val r13 (by decide) (by decide),
      inj_val j3, round_val r12 (by decide) (by decide), round_val r11 (by decide) (by decide),
      round_val r10 (by decide) (by decide), round_val r9 (by decide) (by decide),
      inj_val j2, round_val r8 (by decide) (by decide), round_val r7 (by decide) (by decide),
      round_val r6 (by decide) (by decide), round_val r5 (by decide) (by decide),
      inj_val j1, round_val r4 (by decide) (by decide), round_val r3 (by decide) (by decide),
      round_val r2 (by decide) (by decide), round_val r1 (by decide) (by decide), h0, h1, hk, ha, hb]
    rfl
  exact congrArg (fun p : BitVec 32 × BitVec 32 => p.1 ^^^ p.2) e

end Cert.Proof.Threefry

end
-- ==== Proof.Argmax.lean ====
/- The reference's argmax over the classes: its reduction, at a row, is the running maximum of the specification over the
   row's twenty scores. -/
module

public import proofs.«01_k».proof.Proof.RefOps
public import proofs.«01_k».proof.Proof.Spec
public import proofs.«01_k».proof.Proof.Index
public import Idealize.ShloMosaic.PureOps.Reduce
public import Idealize.ShloMosaic.PureOps.Ideal.Laws
public import Mathlib.Data.List.Sort

@[expose] public section

noncomputable section

namespace Cert.Proof.Argmax

open Idealize.ShloMosaic Cert.Proof.Index

/-- The places of row `r` of a rank-two shape, in row-major order, are its columns in turn. -/
theorem places {n m : ℕ} (h : (⟨2, ![n, m]⟩ : Shape).ReducesTo [1] ⟨1, ![n]⟩) (r : Fin n) :
    ((List.finRange (⟨2, ![n, m]⟩ : Shape).numel).filter fun p => h.drop ((⟨2, ![n, m]⟩ : Shape).rowMajor.symm p) = at1 r)
      = (List.finRange m).map fun k => (⟨2, ![n, m]⟩ : Shape).rowMajor (at2 r k) := by
  refine List.SortedLT.eq_of_mem_iff ?_ ?_ fun p => ?_
  · exact ((List.pairwise_lt_finRange _).filter _).sortedLT
  · refine List.Pairwise.sortedLT (List.pairwise_map.2 ((List.pairwise_lt_finRange m).imp fun {a b} hab => ?_))
    rw [Fin.lt_def, place2, place2]
    exact Nat.add_lt_add_left hab _
  · rw [List.mem_filter, List.mem_map]
    constructor
    · rintro ⟨-, hp⟩
      obtain ⟨a, b, e⟩ := ex2 ((⟨2, ![n, m]⟩ : Shape).rowMajor.symm p)
      refine ⟨b, List.mem_finRange _, ?_⟩
      rw [e] at hp
      have ha : a = r := congrFun (of_decide_eq_true hp) 0
      rw [← ha, ← e, Equiv.apply_symm_apply]
    · rintro ⟨k, -, rfl⟩
      refine ⟨List.mem_finRange _, decide_eq_true ?_⟩
      rw [Equiv.symm_apply_apply]
      exact eta1 _

/-- The number of the word of minus infinity is the least extended real. -/
theorem ofBits_neg_inf : Ideal.ofBits .f32 0xFF800000#32 = ⊥ := by simp [Ideal.ofBits, Ideal.ieee]

variable [Cert.ReferenceIdeal.Facts]
open Cert.ReferenceIdeal

/-- The body of the reduction, by the order of the two scores. -/
theorem body_eq (a b : EReal) (i j : BitVec 32) :
    reducer_argmax_f32_i32 (F := Ideal) (a, i) (b, j)
      = (if b < a then a else b, if b < a ∨ (a = b ∧ i.slt j = true) then i else j) := by
  unfold reducer_argmax_f32_i32
  by_cases h1 : b < a
  · have h2 : a ≠ b := h1.ne'
    simp [Ideal.cmpf_def, Ideal.cmp, h1, h2, IntOp.ori, IntOp.andi, Scalar.select, IntOp.cmpi]
  · by_cases h2 : a = b
    · subst h2
      by_cases h3 : i.slt j = true
      · simp [Ideal.cmpf_def, Ideal.cmp, h3, IntOp.ori, IntOp.andi, Scalar.select, IntOp.cmpi]
      · simp [Ideal.cmpf_def, Ideal.cmp, h3, IntOp.ori, IntOp.andi, Scalar.select, IntOp.cmpi]
    · simp [Ideal.cmpf_def, Ideal.cmp, h1, h2, IntOp.ori, IntOp.andi, Scalar.select, IntOp.cmpi]

/-- A step of the specification's running maximum, by the order of the two scores. -/
theorem run_succ (v : Fin 20 → EReal) (n : ℕ) : Spec.run (F := Ideal) v (n + 1)
    = (if (Spec.run (F := Ideal) v n).1 < v (Fin.ofNat 20 (n + 1)) then v (Fin.ofNat 20 (n + 1)) else (Spec.run (F := Ideal) v n).1,
      if (Spec.run (F := Ideal) v n).1 < v (Fin.ofNat 20 (n + 1)) then BitVec.ofNat 32 (n + 1) else (Spec.run (F := Ideal) v n).2) := by
  by_cases h : (Spec.run (F := Ideal) v n).1 < v (Fin.ofNat 20 (n + 1)) <;>
    simp [-Fin.ofNat_eq_cast, Spec.run, Ideal.cmpf_def, Ideal.cmp, h, Scalar.select]

/-- The place of the running maximum is one of the classes passed. -/
theorem run_place (v : Fin 20 → EReal) : ∀ n, ∃ k ≤ n, (Spec.run (F := Ideal) v n).2 = BitVec.ofNat 32 k
  | 0 => ⟨0, le_rfl, rfl⟩
  | n + 1 => by
    obtain ⟨k, hk, e⟩ := run_place v n
    rw [run_succ]
    by_cases h : (Spec.run (F := Ideal) v n).1 < v (Fin.ofNat 20 (n + 1))
    · exact ⟨n + 1, le_rfl, if_pos h⟩
    · exact ⟨k, by omega, (if_neg h).trans e⟩

/-- Of two small numbers the lesser is the lesser as a signed word. -/
theorem slt_small {a b : ℕ} (h : a < b) (hb : b < 20) : (BitVec.ofNat 32 a).slt (BitVec.ofNat 32 b) = true := by
  interval_cases b <;> interval_cases a <;> rfl

/-- The reduction's body, applied class by class, keeps the running maximum. -/
theorem body_run (v : Fin 20 → EReal) {n : ℕ} (hn : n + 1 < 20) :
    reducer_argmax_f32_i32 (F := Ideal) (Spec.run (F := Ideal) v n) (v (Fin.ofNat 20 (n + 1)), BitVec.ofNat 32 (n + 1))
      = Spec.run (F := Ideal) v (n + 1) := by
  obtain ⟨k, hk, e⟩ := run_place v n
  have hs : (Spec.run (F := Ideal) v n).2.slt (BitVec.ofNat 32 (n + 1)) = true := by
    rw [e]; exact slt_small (by omega) hn
  rw [run_succ, ← Prod.mk.eta (p := Spec.run (F := Ideal) v n), body_eq, hs]
  generalize (Spec.run (F := Ideal) v n).1 = a, v (Fin.ofNat 20 (n + 1)) = b
  rcases lt_trichotomy a b with h | h | h
  · simp [h, h.not_gt, h.ne]
  · simp [h]
  · simp [h, h.not_gt]

/-- The first class, from the least extended real. -/
theorem body_start (v : Fin 20 → EReal) :
    reducer_argmax_f32_i32 (F := Ideal) ((⊥ : EReal), 0#32) (v 0, 0#32) = Spec.run (F := Ideal) v 0 := by
  rw [body_eq]; simp [Spec.run]

/-- The fold over the first classes. -/
theorem fold_run (v : Fin 20 → EReal) : ∀ n, n < 20 →
    ((List.range (n + 1)).map fun k => (v (Fin.ofNat 20 k), BitVec.ofNat 32 k)).foldl
      (reducer_argmax_f32_i32 (F := Ideal)) ((⊥ : EReal), 0#32) = Spec.run (F := Ideal) v n
  | 0, _ => body_start v
  | n + 1, hn => by
    rw [List.range_succ, List.map_append, List.foldl_append, fold_run v n (by omega)]
    exact body_run v hn

/-- The classes in turn, as numbers. -/
theorem classes {α : Type} (g : Fin 20 → α) : (List.finRange 20).map g = (List.range 20).map fun k => g (Fin.ofNat 20 k) := by
  rfl

/-- The reference's argmax at a row is the specification's, of the row's scores. -/
theorem argmax_apply (x : FVec Ideal S1048576x20 .f32) (y : S1048576x20.Idx → BitVec 32)
    (hy : ∀ i, y i = BitVec.ofNat 32 (i 1).val) (u : FVec Ideal S_ .f32) (hu : ∀ i, u i = (⊥ : EReal)) (w : S_.Idx → BitVec 32)
    (hw : ∀ i, w i = 0#32) (h : S1048576x20.ReducesTo [1] S1048576) (h0 : 0 < S_.numel) (r : Fin 1048576) :
    (Host.argReduce (reducer_argmax_f32_i32 (F := Ideal)) x y u w h h0 (at1 r)).2
      = Spec.pick (F := Ideal) fun k => x (at2 r k) := by
  rw [Ideal.argReduce_eq_reduce2, Host.reduce2_eq_foldl_fiber, Host.argReduceFiber, places, List.map_map, hu, hw]
  have e : ∀ k : Fin 20, ((fun n => (x (S1048576x20.rowMajor.symm n), y (S1048576x20.rowMajor.symm n))) ∘
      fun k => S1048576x20.rowMajor (at2 r k)) k
      = (x (at2 r k), BitVec.ofNat 32 k.val) := fun k => by
    rw [Function.comp_apply, Equiv.symm_apply_apply, hy]; rfl
  rw [List.map_congr_left fun k _ => e k]
  unfold Spec.pick
  rw [← fold_run _ 19 (by decide), classes]
  rfl

end Cert.Proof.Argmax

end
-- ==== Proof.RefValue.lean ====
/- What the reference's results are, at an index, as functions of its arguments: the specification. -/
module

public import proofs.«01_k».proof.Proof.Threefry
public import proofs.«01_k».proof.Proof.Argmax
public import Idealize.ShloMosaic.Lib.Pipeline.Value
public import Idealize.ShloMosaic.Lib.IdealHost

@[expose] public section

set_option maxRecDepth 16384

noncomputable section

namespace Cert.Proof.RefValue

open Idealize.ShloMosaic Idealize.SL.Sem Idealize.ShloMosaic.StableHlo Cert.ReferenceIdeal Cert.Proof.Straight
open Cert.Proof.RefOps Cert.Proof.Index Cert.Proof.Threefry

variable [Cert.ReferenceIdeal.Facts]
open Cert.ReferenceIdeal.Facts₀ Cert.ReferenceIdeal.Facts
variable {W : Valuation τ sig (Elt Ideal)}

/-- The least positive normal number is not negative. -/
theorem tiny_nonneg : (0 : EReal) ≤ Ideal.ofBits .f32 0x00800000#32 := by
  simp [Ideal.ofBits, Ideal.ieee, -EReal.coe_mul]

/-- Scaling from `[0, 1)` to `[0, 1)` and bounding by zero do nothing to a variable that is then bounded by the least
    positive normal number. -/
theorem draw_eq (n : BitVec 32) : max (Ideal.ofBits .f32 0x00800000#32) (max (0 : EReal)
    ((Ideal.ofBits .f32 ((n >>> 9#32) ||| 0x3F800000#32) - Ideal.ofBits .f32 0x3F800000#32) * (1 - 0) + 0))
      = Spec.draw (F := Ideal) n := by
  rw [sub_zero, mul_one, add_zero, ← max_assoc, max_eq_left tiny_nonneg]
  rfl

/-- The score of the reference is the kernel's: the same two logarithms, added in the other order. -/
theorem score_eq (x : BitVec 32) (l : EReal) :
    -(Ideal.log (-(Ideal.log (Spec.draw (F := Ideal) (Word.noise x) : EReal)))) + l = Spec.score (F := Ideal) x l := by
  show _ = l - Ideal.log (Ideal.ofBits .f32 0x00000000#32 - Ideal.log (Spec.draw (F := Ideal) (Word.noise x) : EReal))
  rw [Ideal.ofBits_zero_f32, zero_sub, sub_eq_add_neg, add_comm]

/-- The counter of token `r` and class `k`: its high word is zero. -/
theorem counter_hi (r k : ℕ) (hr : r < 1048576) (hk : k < 20) :
    (IntOp.shrui .host (20#64 * BitVec.ofNat 64 r + 1#64 * BitVec.ofNat 64 k) 32#64).setWidth 32 = 0#32 := by
  have e : IntOp.shrui .host (20#64 * BitVec.ofNat 64 r + 1#64 * BitVec.ofNat 64 k) 32#64
      = (20#64 * BitVec.ofNat 64 r + 1#64 * BitVec.ofNat 64 k) >>> 32#64 := by simp [IntOp.shrui]
  rw [e]
  apply BitVec.eq_of_toNat_eq
  have h1 : (20 * r + k) % 18446744073709551616 = 20 * r + k := Nat.mod_eq_of_lt (by omega)
  have h2 : (20 * r + k) / 4294967296 = 0 := Nat.div_eq_of_lt (by omega)
  simp [Nat.shiftRight_eq_div_pow, h1, h2]

/-- The counter of token `r` and class `k`: its low word. -/
theorem counter_lo (r k : ℕ) :
    (20#64 * BitVec.ofNat 64 r + 1#64 * BitVec.ofNat 64 k).setWidth 32 = BitVec.ofNat 32 (20 * r + k) := by
  apply BitVec.eq_of_toNat_eq
  simp

/-- The uniform variable of the reference at token `r` and class `k`, bounded below, when the key is `(0, 42)`. -/
theorem uniform_val {a0 : TRef sig ⟨S2, .i32⟩} {a1 a2 : TRef sig ⟨S_, .f32⟩} {φ : fn_uniform.Bufs}
    (h : ∀ op ∈ uniformOps a0 a1 a2 φ, Fix W op) (k0 : val W a0 (at1 (n := 2) 0) = 0#32)
    (k1 : val W a0 (at1 (n := 2) 1) = 42#32) (h1 : the W a1 = (0 : EReal)) (h2 : the W a2 = (1 : EReal))
    (r : Fin 1048576) (k : Fin 20) :
    max (Ideal.ofBits .f32 0x00800000#32) (val W φ.v34 (at2 r k))
      = Spec.draw (F := Ideal) (Word.noise (BitVec.ofNat 32 (20 * r.val + k.val) + 42#32)) := by
  simp only [uniformOps, List.forall_mem_append, List.forall_mem_cons] at h
  obtain ⟨⟨u0, u1, u2, u3, u4, u5, u6, u7, u8, u9, uc, u10, u11, uc0, u12, u13, u14, uc1, u15, u16, u17, u18, -⟩, ht, u20, uc2,
    u21, u22, uc3, u23, u24, u25, ucst, u26, u27, u28, u29, u30, u31, u32, u33, u34, -⟩ := h
  have e14 : val W φ.v14 (at2 r k) = 20#64 * BitVec.ofNat 64 r.val + 1#64 * BitVec.ofNat 64 k.val := by
    rw [fix_binary u14, fix_binary u11, fix_binary u13, fix_unary u10, fix_unary u12, fix_nullary uc, fix_nullary uc0,
      fix_nullary u8, fix_nullary u9]
    rfl
  have e5 : the W φ.v5 = 0#32 := by
    unfold the
    rw [fix_reshape u5, fix_unary u4]
    refine (shapeCast_apply (s := S1) (t := S_) _ shapeCasts_S1_S_ _ (at1 (n := 1) 0) (by rfl)).trans ?_
    exact (extractStridedSlice_apply _ _ _ _ (at1 (n := 2) 0) fun a => by match a with | ⟨0, _⟩ => rfl).trans k0
  have e7 : the W φ.v7 = 42#32 := by
    unfold the
    rw [fix_reshape u7, fix_unary u6]
    refine (shapeCast_apply (s := S1) (t := S_) _ shapeCasts_S1_S_ _ (at1 (n := 1) 0) (by rfl)).trans ?_
    exact (extractStridedSlice_apply _ _ _ _ (at1 (n := 2) 1) fun a => by match a with | ⟨0, _⟩ => rfl).trans k1
  have ehi : val W φ.v18 (at2 r k) = 0#32 := by
    rw [fix_unary u18, fix_binary u16, fix_unary u15, fix_nullary uc1, ← counter_hi r.val k.val r.isLt k.isLt, ← e14]
    rfl
  have elo : val W φ.v17 (at2 r k) = BitVec.ofNat 32 (20 * r.val + k.val) := by
    rw [fix_unary u17, ← counter_lo r.val k.val, ← e14]
    rfl
  have ev := threefry_val ht e5 e7 (at2 r k) ehi
  rw [elo] at ev
  have e24 : val W φ.v24 (at2 r k)
      = (Word.noise (BitVec.ofNat 32 (20 * r.val + k.val) + 42#32) >>> 9#32) ||| 0x3F800000#32 := by
    rw [fix_binary u24, fix_binary u22, fix_unary u21, fix_unary u23, fix_nullary uc2, fix_nullary uc3, fix_binary u20, ← ev]
    exact congrArg (· ||| 0x3F800000#32) (Word.shrui_eq _ (y := 9#32) (by decide))
  have e2 : ∀ i, val W φ.v2 i = (0 : EReal) := fun i => by
    rw [fix_unary u2, fix_unary u0]
    exact (val_scalar a1 _).trans h1
  have e3 : ∀ i, val W φ.v3 i = (1 : EReal) := fun i => by
    rw [fix_unary u3, fix_unary u1]
    exact (val_scalar a2 _).trans h2
  have e27 : val W φ.v27 (at2 r k) = (Ideal.ofBits .f32 (val W φ.v24 (at2 r k)) - Ideal.ofBits .f32 0x3F800000#32 : EReal) := by
    rw [fix_binary u27, fix_unary u26, fix_nullary ucst, fix_unary u25]
    rfl
  rw [← draw_eq, ← e24, ← e27]
  refine congrArg (max _) ?_
  rw [fix_binary u34, fix_binary u32, fix_binary u30, fix_unary u29, fix_unary u31, fix_unary u33, fix_binary u28]
  refine congrArg₂ max (e2 _) (congrArg₂ (· + ·) (congrArg₂ (· * ·) rfl (congrArg₂ (· - ·) (e3 _) (e2 _))) (e2 _))

/-- The clip of the reference, at an index. -/
theorem clip_val {a0 : TRef sig ⟨S128x8192x20, .f32⟩} {a1 a2 : TRef sig ⟨S_, .f32⟩} {φ : fn_clip.Bufs}
    (h : ∀ op ∈ clipOps a0 a1 a2 φ, Fix W op) (y : S128x8192x20.Idx) :
    val W φ.v5 y = (min (the W a2) (max (the W a1) (val W a0 y)) : EReal) := by
  simp only [clipOps, List.forall_mem_cons] at h
  obtain ⟨h0, h1, h2, h3, h4, h5, -⟩ := h
  rw [fix_binary h5, fix_unary h4, fix_unary h3, fix_binary h2, fix_unary h1, fix_unary h0]
  exact congrArg₂ min (val_scalar a2 _) (congrArg₂ max (val_scalar a1 _) rfl)

/-- The reference's argmax, at a token. -/
theorem argmax_val {a0 : TRef sig ⟨S1048576x20, .f32⟩} {φ : fn_argmax.Bufs} (h : ∀ op ∈ argmaxOps a0 φ, Fix W op)
    (r : Fin 1048576) : val W φ.v1_1 (at1 r) = Spec.pick (F := Ideal) fun k => val W a0 (at2 r k) := by
  simp only [argmaxOps, List.forall_mem_cons] at h
  obtain ⟨h0, h1, h2, -, h4, -⟩ := h
  rw [fix_quaternary h4]
  refine Argmax.argmax_apply (val W a0) (val W φ.v0) (fun i => ?_) (val W φ.cst) (fun i => ?_) (val W φ.c) (fun i => ?_) _ _ r
  · rw [fix_nullary h0]; rfl
  · rw [fix_nullary h1]; exact Argmax.ofBits_neg_inf
  · rw [fix_nullary h2]; rfl

/-- The place of token `l` of sequence `n` among all tokens. -/
def token (n : Fin 128) (l : Fin 8192) : Fin 1048576 := ⟨8192 * n.val + l.val, by have := n.isLt; have := l.isLt; omega⟩

/-- The arguments, in the contents `W`. -/
abbrev xt (W : Valuation τ sig (Elt Ideal)) : S128x8192.Idx → BitVec 32 := val W (.of main_arg0 : TRef sig ⟨S128x8192, .i32⟩)
@[inherit_doc xt] abbrev ct (W : Valuation τ sig (Elt Ideal)) : FVec Ideal S128x8192x20 .f32 :=
  val W (.of main_arg1 : TRef sig ⟨S128x8192x20, .f32⟩)
@[inherit_doc xt] abbrev vc (W : Valuation τ sig (Elt Ideal)) : FVec Ideal S128x8192x20 .f32 :=
  val W (.of main_arg2 : TRef sig ⟨S128x8192x20, .f32⟩)
@[inherit_doc xt] abbrev dt (W : Valuation τ sig (Elt Ideal)) : FVec Ideal S128 .f32 := val W (.of main_arg3 : TRef sig ⟨S128, .f32⟩)
@[inherit_doc xt] abbrev mask (W : Valuation τ sig (Elt Ideal)) : S128x8192.Idx → BitVec 1 :=
  val W (.of main_arg4 : TRef sig ⟨S128x8192, .i1⟩)

/-- The new feature, of the arguments in `W`. -/
def moved (W : Valuation τ sig (Elt Ideal)) (n : Fin 128) (l : Fin 8192) (k : Fin 20) : Ideal .f32 :=
  Spec.moved (ct W (at3 n l k)) (vc W (at3 n l k)) (dt W (at1 n))

section Results

variable (h : ∀ op ∈ ops, Fix W op)
include h

/-- The new feature of the reference, at an index. -/
theorem moved_val (n : Fin 128) (l : Fin 8192) (k : Fin 20) :
    val W (.of main_v3 : TRef sig ⟨S128x8192x20, .f32⟩) (at3 n l k) = moved W n l k := by
  simp only [ops, List.forall_mem_append, List.forall_mem_cons] at h
  obtain ⟨⟨h0, h1, h2, h3, -⟩, -⟩ := h
  have e1 : val W (.of main_v1 : TRef sig ⟨S128x8192x20, .f32⟩) (at3 n l k) = dt W (at1 n) := by
    rw [fix_unary h1]
    refine (broadcastInDim_apply _ _ _ _ (at3 (n := 128) (m := 1) (l := 1) n 0 0) fun a => ?_).trans ?_
    · match a with
      | ⟨0, _⟩ => rfl
      | ⟨1, _⟩ => rfl
      | ⟨2, _⟩ => rfl
    · rw [fix_reshape h0]
      refine shapeCast_apply (s := S128) (t := S128x1x1) _ shapeCasts_S128_S128x1x1 _ _ ?_
      refine (Shape.rowMajor_val_one _).trans ?_
      rw [place3]
      show n.val = (n.val * 1 + 0) * 1 + 0
      omega
  unfold moved
  rw [fix_binary h3, fix_binary h2, ← e1]
  rfl

/-- The log probability of the reference, at an index. -/
theorem logit_val (n : Fin 128) (l : Fin 8192) (k : Fin 20) :
    val W (.of main_v8 : TRef sig ⟨S1048576x20, .f32⟩) (at2 (token n l) k) = Spec.logit (moved W n l k) := by
  have hm := moved_val h n l k
  simp only [ops, List.forall_mem_append, List.forall_mem_cons] at h
  obtain ⟨⟨-, -, -, -, h0, h1, -⟩, hc, ⟨h2, h3, h4, h5, h6, -⟩, -⟩ := h
  have e4 := clip_val hc (at3 n l k)
  have c0 : the W (.of main_cst : TRef sig ⟨S_, .f32⟩) = Ideal.ofBits .f32 0x00000000#32 := by
    unfold the; rw [fix_nullary h0]; rfl
  have c1 : the W (.of main_cst_0 : TRef sig ⟨S_, .f32⟩) = Ideal.ofBits .f32 0x3F800000#32 := by
    unfold the; rw [fix_nullary h1]; rfl
  have c2 : val W (.of main_v5 : TRef sig ⟨S128x8192x20, .f32⟩) (at3 n l k) = Ideal.ofBits .f32 0x322BCC77#32 := by
    rw [fix_unary h3, fix_nullary h2]; rfl
  have e6 : val W (.of main_v7 : TRef sig ⟨S1048576x20, .f32⟩) (at2 (token n l) k)
      = val W (.of main_v6 : TRef sig ⟨S128x8192x20, .f32⟩) (at3 n l k) := by
    rw [fix_reshape h5]
    refine shapeCast_apply (s := S128x8192x20) (t := S1048576x20) _ shapeCasts_S128x8192x20_S1048576x20 _ _ ?_
    rw [place3, place2]
    show (n.val * 8192 + l.val) * 20 + k.val = (8192 * n.val + l.val) * 20 + k.val
    omega
  rw [fix_unary h6]
  show Ideal.log (val W (.of main_v7 : TRef sig ⟨S1048576x20, .f32⟩) (at2 (token n l) k)) = _
  rw [e6, fix_binary h4]
  show Ideal.log (_ + val W (.of main_v5 : TRef sig ⟨S128x8192x20, .f32⟩) (at3 n l k) : EReal) = _
  rw [c2]
  refine congrArg (fun x : EReal => Ideal.log (x + Ideal.ofBits .f32 0x322BCC77#32)) (e4.trans ?_)
  rw [c0, c1, hm]
  rfl

/-- The score of the reference, at an index. -/
theorem score_val (n : Fin 128) (l : Fin 8192) (k : Fin 20) :
    val W (.of main_v23 : TRef sig ⟨S1048576x20, .f32⟩) (at2 (token n l) k)
      = Spec.score (Spec.counter n.val l.val k.val) (Spec.logit (moved W n l k)) := by
  have hl := logit_val h n l k
  simp only [ops, List.forall_mem_append, List.forall_mem_cons] at h
  obtain ⟨-, -, ⟨-, -, -, -, -, hc, hc2, h9, h10, h11, hc3, h12, h13, h14, h15, hc4, hc5, -⟩, hu,
    ⟨hc6, h17, h18, h19, h20, h21, h22, h23, -⟩, -⟩ := h
  have k0 : val W (.of main_v15 : TRef sig ⟨S2, .i32⟩) (at1 (n := 2) 0) = 0#32 := by
    rw [fix_binary h15]
    refine (concatenate_pair_apply_left (t := S2) (s₁ := S1) (s₂ := S1) 0 _ _ _ _ rfl (at1 (n := 1) 0) fun b => ?_).trans ?_
    · match b with
      | ⟨0, _⟩ => rfl
    · rw [fix_unary h11, fix_unary h10, fix_binary h9, fix_nullary hc, fix_nullary hc2]
      rfl
  have k1 : val W (.of main_v15 : TRef sig ⟨S2, .i32⟩) (at1 (n := 2) 1) = 42#32 := by
    rw [fix_binary h15]
    refine (concatenate_pair_apply_right (t := S2) (s₁ := S1) (s₂ := S1) 0 _ _ _ _ rfl rfl (at1 (n := 1) 0) (fun b hb => ?_)
      ?_).trans ?_
    · match b with
      | ⟨0, _⟩ => exact absurd rfl hb
    · rfl
    · rw [fix_unary h14, fix_unary h13, fix_binary h12, fix_nullary hc, fix_nullary hc3]
      show (42#32 &&& 4294967295#32 : BitVec 32) = 42#32
      decide
  have c4 : the W (.of main_cst_4 : TRef sig ⟨S_, .f32⟩) = (0 : EReal) := by
    unfold the; rw [fix_nullary hc4]; exact Ideal.ofBits_zero_f32
  have c5 : the W (.of main_cst_5 : TRef sig ⟨S_, .f32⟩) = (1 : EReal) := by
    unfold the; rw [fix_nullary hc5]; exact Ideal.ofBits_one_f32
  have eu := uniform_val hu k0 k1 c4 c5 (token n l) k
  have e18 : val W (.of main_v18 : TRef sig ⟨S1048576x20, .f32⟩) (at2 (token n l) k)
      = Spec.draw (F := Ideal) (Word.noise (Spec.counter n.val l.val k.val)) := by
    rw [fix_binary h18, fix_unary h17, fix_nullary hc6]
    exact eu
  rw [← score_eq, ← e18, ← hl, fix_binary h23, fix_unary h22, fix_unary h21, fix_unary h20, fix_unary h19]
  rfl

/-- The new tokens of the reference, at an index: the argmax of the scores where the mask is set, the old token elsewhere. -/
theorem tokens_val (n : Fin 128) (l : Fin 8192) :
    val W (.of main_v28 : TRef sig ⟨S128x8192, .i32⟩) (at2 n l) = Scalar.select (mask W (at2 n l))
      (Spec.pick fun k => Spec.score (Spec.counter n.val l.val k.val) (Spec.logit (moved W n l k))) (xt W (at2 n l)) := by
  have hs := score_val h n l
  simp only [ops, List.forall_mem_append, List.forall_mem_cons] at h
  obtain ⟨-, -, -, -, -, ha, ⟨h25, -⟩, -, hw⟩ := h
  simp only [where_0Ops, List.forall_mem_cons] at hw
  obtain ⟨hw, -⟩ := hw
  have e25 : val W (.of main_v25 : TRef sig ⟨S128x8192, .i32⟩) (at2 n l)
      = Spec.pick fun k => Spec.score (Spec.counter n.val l.val k.val) (Spec.logit (moved W n l k)) := by
    rw [← funext hs]
    refine Eq.trans ?_ (argmax_val ha (token n l))
    rw [fix_reshape h25]
    refine shapeCast_apply (s := S1048576) (t := S128x8192) _ shapeCasts_S1048576_S128x8192 _ _ ?_
    rw [place2]
    refine (Shape.rowMajor_val_one _).trans ?_
    show 8192 * n.val + l.val = n.val * 8192 + l.val
    omega
  rw [← e25]
  exact congrFun (fix_ternary hw) (at2 n l)

/-- The new features of the reference, at an index: moved where the mask is set, the old ones elsewhere. -/
theorem features_val (n : Fin 128) (l : Fin 8192) (k : Fin 20) :
    val W (.of main_v27 : TRef sig ⟨S128x8192x20, .f32⟩) (at3 n l k)
      = Scalar.select (mask W (at2 n l)) (moved W n l k) (ct W (at3 n l k)) := by
  have hm := moved_val h n l k
  simp only [ops, List.forall_mem_append, List.forall_mem_cons] at h
  obtain ⟨-, -, -, -, -, -, ⟨-, h26, -⟩, hw, -⟩ := h
  simp only [whereOps, List.forall_mem_cons] at hw
  obtain ⟨h0, h1, -⟩ := hw
  have e0 : val W main_call3.v0 (at3 n l k) = mask W (at2 n l) := by
    rw [fix_unary h0]
    refine (broadcastInDim_apply _ _ _ _ (at3 (n := 128) (m := 8192) (l := 1) n l 0) fun a => ?_).trans ?_
    · match a with
      | ⟨0, _⟩ => rfl
      | ⟨1, _⟩ => rfl
      | ⟨2, _⟩ => rfl
    · rw [fix_unary h26]
      refine broadcastInDim_apply _ _ _ _ (at2 n l) fun a => ?_
      match a with
      | ⟨0, _⟩ => rfl
      | ⟨1, _⟩ => rfl
  rw [← e0, ← hm]
  exact congrFun (fix_ternary h1) (at3 n l k)

end Results

end Cert.Proof.RefValue

end
-- ==== Proof.Agree.lean ====
/- The reference's two results are the kernel's, from memories that agree on the arguments. -/
module

public import proofs.«01_k».proof.Proof.KernelRun
public import proofs.«01_k».proof.Proof.RefRun
public import proofs.«01_k».proof.Proof.RefValue

@[expose] public section

set_option maxRecDepth 16384

noncomputable section

namespace Cert.Proof.Agree

open Idealize.ShloMosaic Idealize.SL.Sem Idealize.ShloMosaic.StableHlo Cert.Proof.Index Cert.Proof.Straight

variable [Cert.ReferenceIdeal.Facts]
variable (m : (ℓ : Loc Cert.KernelIdeal.nD Cert.KernelIdeal.τ Cert.KernelIdeal.sig) → Buf (Elt Ideal) ℓ)
variable (W : Valuation Cert.ReferenceIdeal.τ Cert.ReferenceIdeal.sig (Elt Ideal)) (c : Dev Cert.KernelIdeal.nD)

/-- The contents `W` of the reference's buffers hold the arguments that the kernel has on device `c`. -/
structure Same : Prop where
  xt : RefValue.xt W = Arrays.xt m c
  ct : RefValue.ct W = Arrays.ct m c
  vc : RefValue.vc W = Arrays.vc m c
  dt : RefValue.dt W = Arrays.dt m c
  mask : RefValue.mask W = Arrays.mask m c

variable {m W c} (h : Same m W c)
include h

/-- The new features are the same. -/
theorem moved_eq (n : Fin 128) (l : Fin 8192) (k : Fin 20) : RefValue.moved W n l k = Arrays.moved m c n l k := by
  unfold RefValue.moved Arrays.moved
  rw [h.ct, h.vc, h.dt]

variable (hW : ∀ op ∈ RefOps.ops, Fix W op)
include hW

/-- The tokens are the same, at an index. -/
theorem tokens_at (n : Fin 128) (l : Fin 8192) :
    val W (.of Cert.ReferenceIdeal.main_v28 : TRef Cert.ReferenceIdeal.sig ⟨Cert.ReferenceIdeal.S128x8192, .i32⟩) (at2 n l)
      = Arrays.tokens m c (at2 n l) := by
  refine (RefValue.tokens_val hW n l).trans ?_
  rw [h.mask, h.xt]
  unfold Arrays.tokens
  refine congrArg (fun w => Scalar.select _ w _) (congrArg Spec.pick (funext fun k => ?_))
  exact congrArg (fun w => Spec.score _ (Spec.logit w)) (moved_eq h n l k)

/-- The features are the same, at an index. -/
theorem features_at (n : Fin 128) (l : Fin 8192) (k : Fin 20) :
    val W (.of Cert.ReferenceIdeal.main_v27 : TRef Cert.ReferenceIdeal.sig ⟨Cert.ReferenceIdeal.S128x8192x20, .f32⟩) (at3 n l k)
      = KernelRun.result m c (at3 n l k) := by
  refine (RefValue.features_val hW n l k).trans ?_
  rw [h.mask, h.ct, moved_eq h n l k]
  rfl

/-- The tokens are the same. -/
theorem tokens_eq : W (Proc.devRef .tc Cert.ReferenceIdeal.main_v28) = Arrays.tokens m c := by
  funext y
  obtain ⟨n, l, rfl⟩ := ex2 (n := 128) (m := 8192) y
  exact tokens_at h hW n l

/-- The features are the same. -/
theorem features_eq : W (Proc.devRef .tc Cert.ReferenceIdeal.main_v27) = KernelRun.result m c := by
  funext y
  obtain ⟨n, l, k, rfl⟩ := ex3 (n := 128) (m := 8192) (l := 20) y
  exact features_at h hW n l k

end Cert.Proof.Agree

end
-- ==== Proof.lean ====
/- The five claims: the frames of the three programs, that the idealization kept every operation, and that the idealized
   kernel and the reference end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Agree
public import Idealize.ShloMosaic.Adequacy
public import Idealize.ShloMosaic.Init

@[expose] public section

noncomputable section

namespace Cert.Proof

open Idealize.ShloMosaic Idealize.SL.Sem

/-- The kernel and the reference, over the extended reals, from the same arguments, end with the same tokens and the same
    features. -/
theorem algebraic : Cert.algebraic_KernelIdeal_ReferenceIdeal := by
  intro m g m' g' _ agree
  have same : ∀ c, Agree.Same m (RefRun.fin m' c) c := fun c =>
    have a (b : Ref Cert.ReferenceIdeal.sig .tc) (hb : Straight.rank b < 5) := RefRun.fin_arg m' c b hb
    ⟨(a Cert.ReferenceIdeal.main_arg0 (by decide)).trans (agree c).1,
      (a Cert.ReferenceIdeal.main_arg1 (by decide)).trans (agree c).2.1,
      (a Cert.ReferenceIdeal.main_arg2 (by decide)).trans (agree c).2.2.1,
      (a Cert.ReferenceIdeal.main_arg3 (by decide)).trans (agree c).2.2.2.1,
      (a Cert.ReferenceIdeal.main_arg4 (by decide)).trans (agree c).2.2.2.2⟩
  refine ⟨fun c => Arrays.tokens m c, fun c => KernelRun.result m c, KernelRun.run m g, ?_⟩
  refine θ_run_mono (θ_run_and (RefRun.run_main m' g') (RefRun.frame m' g')) fun r h c => ?_
  exact ⟨(h.1 c _).trans (Agree.tokens_eq (same c) (RefRun.fin_fix m' c)), (h.1 c _).trans (Agree.features_eq (same c) (RefRun.fin_fix m' c)), h.2.1 c⟩

/-- All five claims. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, fun m ρ _ => RefRun.frame m ρ, trivial, algebraic⟩

end Cert.Proof

end
